-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "floor" .f32 0x02081CEA#32 ⊥

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S16x2048x64 : Shape := ⟨3, ![16, 2048, 64]⟩
abbrev S16x256 : Shape := ⟨2, ![16, 256]⟩
abbrev S16 : Shape := ⟨1, ![16]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg3 : IVec S16 32) (main_v10 : IVec S_ 1) (main_v15 : IVec S16 1) (main_c_5 : IVec S_ 1) : IVec S_ 1 :=
  let main_v16 : IVec S_ 1 := (fun x v => Host.reduce IntOp.andi x v reducesTo_S16_S_d0 h_S_) main_v15 main_c_5
  let main_v17 : IVec S_ 1 := andi main_v10 main_v16
  let main_c_6 : IVec S_ 32 := constantI S_ 32 128#32
  let main_v18 : IVec S16 32 := broadcastInDim S16 ![] bcast_S_S16 main_c_6
  let main_v19 : IVec S16 1 := cmpi .sge main_arg3 main_v18
  let main_c_7 : IVec S_ 32 := constantI S_ 32 256#32
  let main_v20 : IVec S16 32 := broadcastInDim S16 ![] bcast_S_S16 main_c_7
  let main_v21 : IVec S16 1 := cmpi .sle main_arg3 main_v20
  let main_v22 : IVec S16 1 := andi main_v19 main_v21
  let main_c_8 : IVec S_ 1 := constantI S_ 1 1#1
  let main_v23 : IVec S_ 1 := (fun x v => Host.reduce IntOp.andi x v reducesTo_S16_S_d0 h_S_) main_v22 main_c_8
  let main_v24 : IVec S_ 1 := andi main_v17 main_v23
  main_v24

def fn {F : FTy → Type} [FloatOps F] (main_arg0 : FVec F S16x2048x64 .f32) (main_arg1 : IVec S16x256 32) (main_arg2 : IVec S16 32) (main_arg3 : IVec S16 32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_c_0 : IVec S_ 32 := constantI S_ 32 2#32
  let main_v4 : IVec S16x256 32 := broadcastInDim S16x256 ![] bcast_S_S16x256 main_c_0
  let main_v5 : IVec S16x256 1 := cmpi .sge main_arg1 main_v4
  let main_c_1 : IVec S_ 32 := constantI S_ 32 64#32
  let main_v6 : IVec S16x256 32 := broadcastInDim S16x256 ![] bcast_S_S16x256 main_c_1
  let main_v7 : IVec S16x256 1 := cmpi .slt main_arg1 main_v6
  let main_v8 : IVec S16x256 1 := andi main_v5 main_v7
  let main_c_2 : IVec S_ 1 := constantI S_ 1 1#1
  let main_v9 : IVec S_ 1 := (fun x v => Host.reduce IntOp.andi x v reducesTo_S16x256_S_d0_1 h_S_) main_v8 main_c_2
  let main_v10 : IVec S_ 1 := andi main_v3 main_v9
  let main_c_3 : IVec S_ 32 := constantI S_ 32 1024#32
  let main_v11 : IVec S16 32 := broadcastInDim S16 ![] bcast_S_S16 main_c_3
  let main_v12 : IVec S16 1 := cmpi .sge main_arg2 main_v11
  let main_c_4 : IVec S_ 32 := constantI S_ 32 2048#32
  let main_v13 : IVec S16 32 := broadcastInDim S16 ![] bcast_S_S16 main_c_4
  let main_v14 : IVec S16 1 := cmpi .sle main_arg2 main_v13
  let main_v15 : IVec S16 1 := andi main_v12 main_v14
  let main_c_5 : IVec S_ 1 := constantI S_ 1 1#1
  fn_part1 (F := F) main_arg3 main_v10 main_v15 main_c_5
-- ==== Kernel.lean ====
abbrev S16x2048x64 : Shape := ⟨3, ![16, 2048, 64]⟩
abbrev S16x256 : Shape := ⟨2, ![16, 256]⟩
abbrev S16 : Shape := ⟨1, ![16]⟩
abbrev S16x1 : Shape := ⟨2, ![16, 1]⟩
abbrev S16x128 : Shape := ⟨2, ![16, 128]⟩
abbrev S16x128x384 : Shape := ⟨3, ![16, 128, 384]⟩
abbrev S16x64x384 : Shape := ⟨3, ![16, 64, 384]⟩
abbrev S16x384 : Shape := ⟨2, ![16, 384]⟩
abbrev S64x384 : Shape := ⟨2, ![64, 384]⟩
abbrev S1x384 : Shape := ⟨2, ![1, 384]⟩
abbrev S384 : Shape := ⟨1, ![384]⟩
abbrev S1x64x384 : Shape := ⟨3, ![1, 64, 384]⟩
abbrev S16x383 : Shape := ⟨2, ![16, 383]⟩
abbrev S1x128x64 : Shape := ⟨3, ![1, 128, 64]⟩
abbrev S128x64 : Shape := ⟨2, ![128, 64]⟩
abbrev S128 : Shape := ⟨1, ![128]⟩
abbrev S128x1 : Shape := ⟨2, ![128, 1]⟩
abbrev S128x384 : Shape := ⟨2, ![128, 384]⟩
abbrev S1x128x384 : Shape := ⟨3, ![1, 128, 384]⟩
abbrev S16x1x384 : Shape := ⟨3, ![16, 1, 384]⟩

abbrev nBuf : Space → Nat
  | .hbm => 9
  | .vmem => 8
  | .smem => 0
  | _ => 0

abbrev bufTy : (tb : Table) → Fin (tcTables nBuf tb) → BufTy
  | .hbm, ⟨0, _⟩ => ⟨S16x2048x64, .f32⟩
  | .hbm, ⟨1, _⟩ => ⟨S16x256, .i32⟩
  | .hbm, ⟨2, _⟩ => ⟨S16, .i32⟩
  | .hbm, ⟨3, _⟩ => ⟨S16, .i32⟩
  | .hbm, ⟨4, _⟩ => ⟨S16x1, .i32⟩
  | .hbm, ⟨5, _⟩ => ⟨S16x1, .i32⟩
  | .hbm, ⟨6, _⟩ => ⟨S16x128, .f32⟩
  | .hbm, ⟨7, _⟩ => ⟨S16x1, .f32⟩
  | .hbm, ⟨8, _⟩ => ⟨S16, .f32⟩
  | .local _ .vmem, ⟨0, _⟩ => ⟨S16x2048x64, .f32⟩
  | .local _ .vmem, ⟨1, _⟩ => ⟨S16x256, .i32⟩
  | .local _ .vmem, ⟨2, _⟩ => ⟨S16x1, .i32⟩
  | .local _ .vmem, ⟨3, _⟩ => ⟨S16x1, .i32⟩
  | .local _ .vmem, ⟨4, _⟩ => ⟨S16x128, .f32⟩
  | .local _ .vmem, ⟨5, _⟩ => ⟨S16x128x384, .f32⟩
  | .local _ .vmem, ⟨6, _⟩ => ⟨S16x128x384, .f32⟩
  | .local _ .vmem, ⟨7, _⟩ => ⟨S16x64x384, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_622 : BitVec 32 := 0#32
  let c7_i32 : BitVec 32 := 7#32
  let v2036 : BitVec 32 := Scalar.addi c0_i32_622 c7_i32
  let c1_i32_623 : BitVec 32 := 1#32
  ⟨c0_i32_622, v2036, c1_i32_623⟩
def k0_off1 (k0_t1 : Fin k0_t1_loop.trips) (c0_i32_637 : BitVec 32) : Fin 3 → Nat :=
  let c0_638 : Index := 0#32
  let c16_i32_636 : BitVec 32 := 16#32
  let c0_i32_622 : BitVec 32 := 0#32
  let c1_i32_623 : BitVec 32 := 1#32
  let arg8 : BitVec 32 := Scf.iv c0_i32_622 c1_i32_623 k0_t1
  let c16_i32 : BitVec 32 := 16#32
  let v2065 : BitVec 32 := Scalar.muli arg8 c16_i32
  let v2066 : BitVec 32 := Scalar.addi c16_i32_636 v2065
  let v2067 : BitVec 32 := Scalar.addi v2066 c0_i32_637
  let v2068 : Index := Scalar.indexCast v2067
  let c0_639 : Index := 0#32
  ![0, v2068.toNat, 0]
def k0_off2 (k0_t1 : Fin k0_t1_loop.trips) (c0_i32_637 : BitVec 32) : Fin 3 → Nat :=
  let c0_644 : Index := 0#32
  let c127_i32 : BitVec 32 := 127#32
  let c16_i32_636 : BitVec 32 := 16#32
  let c0_i32_622 : BitVec 32 := 0#32
  let c1_i32_623 : BitVec 32 := 1#32
  let arg8 : BitVec 32 := Scf.iv c0_i32_622 c1_i32_623 k0_t1
  let c16_i32 : BitVec 32 := 16#32
  let v2065 : BitVec 32 := Scalar.muli arg8 c16_i32
  let v2066 : BitVec 32 := Scalar.addi c16_i32_636 v2065
  let v2067 : BitVec 32 := Scalar.addi v2066 c0_i32_637
  let v2100 : BitVec 32 := Scalar.subi c127_i32 v2067
  let v2102 : Index := Scalar.indexCast v2100
  let c0_645 : Index := 0#32
  ![0, v2102.toNat, 0]
@[reducible] def k0_t2_loop : Scf.Loop 32 :=
  let c1_i32_625 : BitVec 32 := 1#32
  let c7_i32_626 : BitVec 32 := 7#32
  let v2038 : BitVec 32 := Scalar.addi c1_i32_625 c7_i32_626
  let c1_i32_627 : BitVec 32 := 1#32
  ⟨c1_i32_625, v2038, c1_i32_627⟩
def k0_off3 (k0_t2 : Fin k0_t2_loop.trips) : Fin 3 → Nat :=
  let c0_636 : Index := 0#32
  let c1_i32_625 : BitVec 32 := 1#32
  let c1_i32_627 : BitVec 32 := 1#32
  let arg8 : BitVec 32 := Scf.iv c1_i32_625 c1_i32_627 k0_t2
  let c128_i32 : BitVec 32 := 128#32
  let v2065 : BitVec 32 := Scalar.muli arg8 c128_i32
  let v2066 : Index := Scalar.indexCast v2065
  let c0_637 : Index := 0#32
  ![0, v2066.toNat, 0]
def k0_off4 (k0_t2 : Fin k0_t2_loop.trips) : Fin 3 → Nat :=
  let c1_647 : Index := 1#32
  let c1_i32_625 : BitVec 32 := 1#32
  let c1_i32_627 : BitVec 32 := 1#32
  let arg8 : BitVec 32 := Scf.iv c1_i32_625 c1_i32_627 k0_t2
  let c128_i32 : BitVec 32 := 128#32
  let v2065 : BitVec 32 := Scalar.muli arg8 c128_i32
  let v2086 : Index := Scalar.indexCast v2065
  let c0_648 : Index := 0#32
  ![1, v2086.toNat, 0]
def k0_off5 (k0_t2 : Fin k0_t2_loop.trips) : Fin 3 → Nat :=
  let c2_658 : Index := 2#32
  let c1_i32_625 : BitVec 32 := 1#32
  let c1_i32_627 : BitVec 32 := 1#32
  let arg8 : BitVec 32 := Scf.iv c1_i32_625 c1_i32_627 k0_t2
  let c128_i32 : BitVec 32 := 128#32
  let v2065 : BitVec 32 := Scalar.muli arg8 c128_i32
  let v2106 : Index := Scalar.indexCast v2065
  let c0_659 : Index := 0#32
  ![2, v2106.toNat, 0]
def k0_off6 (k0_t2 : Fin k0_t2_loop.trips) : Fin 3 → Nat :=
  let c3_669 : Index := 3#32
  let c1_i32_625 : BitVec 32 := 1#32
  let c1_i32_627 : BitVec 32 := 1#32
  let arg8 : BitVec 32 := Scf.iv c1_i32_625 c1_i32_627 k0_t2
  let c128_i32 : BitVec 32 := 128#32
  let v2065 : BitVec 32 := Scalar.muli arg8 c128_i32
  let v2126 : Index := Scalar.indexCast v2065
  let c0_670 : Index := 0#32
  ![3, v2126.toNat, 0]
def k0_off7 (k0_t2 : Fin k0_t2_loop.trips) : Fin 3 → Nat :=
  let c4_680 : Index := 4#32
  let c1_i32_625 : BitVec 32 := 1#32
  let c1_i32_627 : BitVec 32 := 1#32
  let arg8 : BitVec 32 := Scf.iv c1_i32_625 c1_i32_627 k0_t2
  let c128_i32 : BitVec 32 := 128#32
  let v2065 : BitVec 32 := Scalar.muli arg8 c128_i32
  let v2146 : Index := Scalar.indexCast v2065
  let c0_681 : Index := 0#32
  ![4, v2146.toNat, 0]
def k0_off8 (k0_t2 : Fin k0_t2_loop.trips) : Fin 3 → Nat :=
  let c5_691 : Index := 5#32
  let c1_i32_625 : BitVec 32 := 1#32
  let c1_i32_627 : BitVec 32 := 1#32
  let arg8 : BitVec 32 := Scf.iv c1_i32_625 c1_i32_627 k0_t2
  let c128_i32 : BitVec 32 := 128#32
  let v2065 : BitVec 32 := Scalar.muli arg8 c128_i32
  let v2166 : Index := Scalar.indexCast v2065
  let c0_692 : Index := 0#32
  ![5, v2166.toNat, 0]
def k0_off9 (k0_t2 : Fin k0_t2_loop.trips) : Fin 3 → Nat :=
  let c6_702 : Index := 6#32
  let c1_i32_625 : BitVec 32 := 1#32
  let c1_i32_627 : BitVec 32 := 1#32
  let arg8 : BitVec 32 := Scf.iv c1_i32_625 c1_i32_627 k0_t2
  let c128_i32 : BitVec 32 := 128#32
  let v2065 : BitVec 32 := Scalar.muli arg8 c128_i32
  let v2186 : Index := Scalar.indexCast v2065
  let c0_703 : Index := 0#32
  ![6, v2186.toNat, 0]
def k0_off10 (k0_t2 : Fin k0_t2_loop.trips) : Fin 3 → Nat :=
  let c7_713 : Index := 7#32
  let c1_i32_625 : BitVec 32 := 1#32
  let c1_i32_627 : BitVec 32 := 1#32
  let arg8 : BitVec 32 := Scf.iv c1_i32_625 c1_i32_627 k0_t2
  let c128_i32 : BitVec 32 := 128#32
  let v2065 : BitVec 32 := Scalar.muli arg8 c128_i32
  let v2206 : Index := Scalar.indexCast v2065
  let c0_714 : Index := 0#32
  ![7, v2206.toNat, 0]
def k0_off11 (k0_t2 : Fin k0_t2_loop.trips) : Fin 3 → Nat :=
  let c8_724 : Index := 8#32
  let c1_i32_625 : BitVec 32 := 1#32
  let c1_i32_627 : BitVec 32 := 1#32
  let arg8 : BitVec 32 := Scf.iv c1_i32_625 c1_i32_627 k0_t2
  let c128_i32 : BitVec 32 := 128#32
  let v2065 : BitVec 32 := Scalar.muli arg8 c128_i32
  let v2226 : Index := Scalar.indexCast v2065
  let c0_725 : Index := 0#32
  ![8, v2226.toNat, 0]
def k0_off12 (k0_t2 : Fin k0_t2_loop.trips) : Fin 3 → Nat :=
  let c9_735 : Index := 9#32
  let c1_i32_625 : BitVec 32 := 1#32
  let c1_i32_627 : BitVec 32 := 1#32
  let arg8 : BitVec 32 := Scf.iv c1_i32_625 c1_i32_627 k0_t2
  let c128_i32 : BitVec 32 := 128#32
  let v2065 : BitVec 32 := Scalar.muli arg8 c128_i32
  let v2246 : Index := Scalar.indexCast v2065
  let c0_736 : Index := 0#32
  ![9, v2246.toNat, 0]
def k0_off13 (k0_t2 : Fin k0_t2_loop.trips) : Fin 3 → Nat :=
  let c10_746 : Index := 10#32
  let c1_i32_625 : BitVec 32 := 1#32
  let c1_i32_627 : BitVec 32 := 1#32
  let arg8 : BitVec 32 := Scf.iv c1_i32_625 c1_i32_627 k0_t2
  let c128_i32 : BitVec 32 := 128#32
  let v2065 : BitVec 32 := Scalar.muli arg8 c128_i32
  let v2266 : Index := Scalar.indexCast v2065
  let c0_747 : Index := 0#32
  ![10, v2266.toNat, 0]
def k0_off14 (k0_t2 : Fin k0_t2_loop.trips) : Fin 3 → Nat :=
  let c11_757 : Index := 11#32
  let c1_i32_625 : BitVec 32 := 1#32
  let c1_i32_627 : BitVec 32 := 1#32
  let arg8 : BitVec 32 := Scf.iv c1_i32_625 c1_i32_627 k0_t2
  let c128_i32 : BitVec 32 := 128#32
  let v2065 : BitVec 32 := Scalar.muli arg8 c128_i32
  let v2286 : Index := Scalar.indexCast v2065
  let c0_758 : Index := 0#32
  ![11, v2286.toNat, 0]
def k0_off15 (k0_t2 : Fin k0_t2_loop.trips) : Fin 3 → Nat :=
  let c12_768 : Index := 12#32
  let c1_i32_625 : BitVec 32 := 1#32
  let c1_i32_627 : BitVec 32 := 1#32
  let arg8 : BitVec 32 := Scf.iv c1_i32_625 c1_i32_627 k0_t2
  let c128_i32 : BitVec 32 := 128#32
  let v2065 : BitVec 32 := Scalar.muli arg8 c128_i32
  let v2306 : Index := Scalar.indexCast v2065
  let c0_769 : Index := 0#32
  ![12, v2306.toNat, 0]
def k0_off16 (k0_t2 : Fin k0_t2_loop.trips) : Fin 3 → Nat :=
  let c13_779 : Index := 13#32
  let c1_i32_625 : BitVec 32 := 1#32
  let c1_i32_627 : BitVec 32 := 1#32
  let arg8 : BitVec 32 := Scf.iv c1_i32_625 c1_i32_627 k0_t2
  let c128_i32 : BitVec 32 := 128#32
  let v2065 : BitVec 32 := Scalar.muli arg8 c128_i32
  let v2326 : Index := Scalar.indexCast v2065
  let c0_780 : Index := 0#32
  ![13, v2326.toNat, 0]
def k0_off17 (k0_t2 : Fin k0_t2_loop.trips) : Fin 3 → Nat :=
  let c14_790 : Index := 14#32
  let c1_i32_625 : BitVec 32 := 1#32
  let c1_i32_627 : BitVec 32 := 1#32
  let arg8 : BitVec 32 := Scf.iv c1_i32_625 c1_i32_627 k0_t2
  let c128_i32 : BitVec 32 := 128#32
  let v2065 : BitVec 32 := Scalar.muli arg8 c128_i32
  let v2346 : Index := Scalar.indexCast v2065
  let c0_791 : Index := 0#32
  ![14, v2346.toNat, 0]
def k0_off18 (k0_t2 : Fin k0_t2_loop.trips) : Fin 3 → Nat :=
  let c15_801 : Index := 15#32
  let c1_i32_625 : BitVec 32 := 1#32
  let c1_i32_627 : BitVec 32 := 1#32
  let arg8 : BitVec 32 := Scf.iv c1_i32_625 c1_i32_627 k0_t2
  let c128_i32 : BitVec 32 := 128#32
  let v2065 : BitVec 32 := Scalar.muli arg8 c128_i32
  let v2366 : Index := Scalar.indexCast v2065
  let c0_802 : Index := 0#32
  ![15, v2366.toNat, 0]
def k0_off19 (k0_t2 : Fin k0_t2_loop.trips) : Fin 3 → Nat :=
  let c0_813 : Index := 0#32
  let c15_i32 : BitVec 32 := 15#32
  let c1_i32_625 : BitVec 32 := 1#32
  let c1_i32_627 : BitVec 32 := 1#32
  let arg8 : BitVec 32 := Scf.iv c1_i32_625 c1_i32_627 k0_t2
  let v2386 : BitVec 32 := Scalar.subi c15_i32 arg8
  let c128_i32_812 : BitVec 32 := 128#32
  let v2387 : BitVec 32 := Scalar.muli v2386 c128_i32_812
  let v2388 : Index := Scalar.indexCast v2387
  let c0_814 : Index := 0#32
  ![0, v2388.toNat, 0]
def k0_off20 (k0_t2 : Fin k0_t2_loop.trips) : Fin 3 → Nat :=
  let c1_824 : Index := 1#32
  let c15_i32 : BitVec 32 := 15#32
  let c1_i32_625 : BitVec 32 := 1#32
  let c1_i32_627 : BitVec 32 := 1#32
  let arg8 : BitVec 32 := Scf.iv c1_i32_625 c1_i32_627 k0_t2
  let v2386 : BitVec 32 := Scalar.subi c15_i32 arg8
  let c128_i32_812 : BitVec 32 := 128#32
  let v2387 : BitVec 32 := Scalar.muli v2386 c128_i32_812
  let v2408 : Index := Scalar.indexCast v2387
  let c0_825 : Index := 0#32
  ![1, v2408.toNat, 0]
def k0_off21 (k0_t2 : Fin k0_t2_loop.trips) : Fin 3 → Nat :=
  let c2_835 : Index := 2#32
  let c15_i32 : BitVec 32 := 15#32
  let c1_i32_625 : BitVec 32 := 1#32
  let c1_i32_627 : BitVec 32 := 1#32
  let arg8 : BitVec 32 := Scf.iv c1_i32_625 c1_i32_627 k0_t2
  let v2386 : BitVec 32 := Scalar.subi c15_i32 arg8
  let c128_i32_812 : BitVec 32 := 128#32
  let v2387 : BitVec 32 := Scalar.muli v2386 c128_i32_812
  let v2428 : Index := Scalar.indexCast v2387
  let c0_836 : Index := 0#32
  ![2, v2428.toNat, 0]
def k0_off22 (k0_t2 : Fin k0_t2_loop.trips) : Fin 3 → Nat :=
  let c3_846 : Index := 3#32
  let c15_i32 : BitVec 32 := 15#32
  let c1_i32_625 : BitVec 32 := 1#32
  let c1_i32_627 : BitVec 32 := 1#32
  let arg8 : BitVec 32 := Scf.iv c1_i32_625 c1_i32_627 k0_t2
  let v2386 : BitVec 32 := Scalar.subi c15_i32 arg8
  let c128_i32_812 : BitVec 32 := 128#32
  let v2387 : BitVec 32 := Scalar.muli v2386 c128_i32_812
  let v2448 : Index := Scalar.indexCast v2387
  let c0_847 : Index := 0#32
  ![3, v2448.toNat, 0]
def k0_off23 (k0_t2 : Fin k0_t2_loop.trips) : Fin 3 → Nat :=
  let c4_857 : Index := 4#32
  let c15_i32 : BitVec 32 := 15#32
  let c1_i32_625 : BitVec 32 := 1#32
  let c1_i32_627 : BitVec 32 := 1#32
  let arg8 : BitVec 32 := Scf.iv c1_i32_625 c1_i32_627 k0_t2
  let v2386 : BitVec 32 := Scalar.subi c15_i32 arg8
  let c128_i32_812 : BitVec 32 := 128#32
  let v2387 : BitVec 32 := Scalar.muli v2386 c128_i32_812
  let v2468 : Index := Scalar.indexCast v2387
  let c0_858 : Index := 0#32
  ![4, v2468.toNat, 0]
def k0_off24 (k0_t2 : Fin k0_t2_loop.trips) : Fin 3 → Nat :=
  let c5_868 : Index := 5#32
  let c15_i32 : BitVec 32 := 15#32
  let c1_i32_625 : BitVec 32 := 1#32
  let c1_i32_627 : BitVec 32 := 1#32
  let arg8 : BitVec 32 := Scf.iv c1_i32_625 c1_i32_627 k0_t2
  let v2386 : BitVec 32 := Scalar.subi c15_i32 arg8
  let c128_i32_812 : BitVec 32 := 128#32
  let v2387 : BitVec 32 := Scalar.muli v2386 c128_i32_812
  let v2488 : Index := Scalar.indexCast v2387
  let c0_869 : Index := 0#32
  ![5, v2488.toNat, 0]
def k0_off25 (k0_t2 : Fin k0_t2_loop.trips) : Fin 3 → Nat :=
  let c6_879 : Index := 6#32
  let c15_i32 : BitVec 32 := 15#32
  let c1_i32_625 : BitVec 32 := 1#32
  let c1_i32_627 : BitVec 32 := 1#32
  let arg8 : BitVec 32 := Scf.iv c1_i32_625 c1_i32_627 k0_t2
  let v2386 : BitVec 32 := Scalar.subi c15_i32 arg8
  let c128_i32_812 : BitVec 32 := 128#32
  let v2387 : BitVec 32 := Scalar.muli v2386 c128_i32_812
  let v2508 : Index := Scalar.indexCast v2387
  let c0_880 : Index := 0#32
  ![6, v2508.toNat, 0]
def k0_off26 (k0_t2 : Fin k0_t2_loop.trips) : Fin 3 → Nat :=
  let c7_890 : Index := 7#32
  let c15_i32 : BitVec 32 := 15#32
  let c1_i32_625 : BitVec 32 := 1#32
  let c1_i32_627 : BitVec 32 := 1#32
  let arg8 : BitVec 32 := Scf.iv c1_i32_625 c1_i32_627 k0_t2
  let v2386 : BitVec 32 := Scalar.subi c15_i32 arg8
  let c128_i32_812 : BitVec 32 := 128#32
  let v2387 : BitVec 32 := Scalar.muli v2386 c128_i32_812
  let v2528 : Index := Scalar.indexCast v2387
  let c0_891 : Index := 0#32
  ![7, v2528.toNat, 0]
def k0_off27 (k0_t2 : Fin k0_t2_loop.trips) : Fin 3 → Nat :=
  let c8_901 : Index := 8#32
  let c15_i32 : BitVec 32 := 15#32
  let c1_i32_625 : BitVec 32 := 1#32
  let c1_i32_627 : BitVec 32 := 1#32
  let arg8 : BitVec 32 := Scf.iv c1_i32_625 c1_i32_627 k0_t2
  let v2386 : BitVec 32 := Scalar.subi c15_i32 arg8
  let c128_i32_812 : BitVec 32 := 128#32
  let v2387 : BitVec 32 := Scalar.muli v2386 c128_i32_812
  let v2548 : Index := Scalar.indexCast v2387
  let c0_902 : Index := 0#32
  ![8, v2548.toNat, 0]
def k0_off28 (k0_t2 : Fin k0_t2_loop.trips) : Fin 3 → Nat :=
  let c9_912 : Index := 9#32
  let c15_i32 : BitVec 32 := 15#32
  let c1_i32_625 : BitVec 32 := 1#32
  let c1_i32_627 : BitVec 32 := 1#32
  let arg8 : BitVec 32 := Scf.iv c1_i32_625 c1_i32_627 k0_t2
  let v2386 : BitVec 32 := Scalar.subi c15_i32 arg8
  let c128_i32_812 : BitVec 32 := 128#32
  let v2387 : BitVec 32 := Scalar.muli v2386 c128_i32_812
  let v2568 : Index := Scalar.indexCast v2387
  let c0_913 : Index := 0#32
  ![9, v2568.toNat, 0]
def k0_off29 (k0_t2 : Fin k0_t2_loop.trips) : Fin 3 → Nat :=
  let c10_923 : Index := 10#32
  let c15_i32 : BitVec 32 := 15#32
  let c1_i32_625 : BitVec 32 := 1#32
  let c1_i32_627 : BitVec 32 := 1#32
  let arg8 : BitVec 32 := Scf.iv c1_i32_625 c1_i32_627 k0_t2
  let v2386 : BitVec 32 := Scalar.subi c15_i32 arg8
  let c128_i32_812 : BitVec 32 := 128#32
  let v2387 : BitVec 32 := Scalar.muli v2386 c128_i32_812
  let v2588 : Index := Scalar.indexCast v2387
  let c0_924 : Index := 0#32
  ![10, v2588.toNat, 0]
def k0_off30 (k0_t2 : Fin k0_t2_loop.trips) : Fin 3 → Nat :=
  let c11_934 : Index := 11#32
  let c15_i32 : BitVec 32 := 15#32
  let c1_i32_625 : BitVec 32 := 1#32
  let c1_i32_627 : BitVec 32 := 1#32
  let arg8 : BitVec 32 := Scf.iv c1_i32_625 c1_i32_627 k0_t2
  let v2386 : BitVec 32 := Scalar.subi c15_i32 arg8
  let c128_i32_812 : BitVec 32 := 128#32
  let v2387 : BitVec 32 := Scalar.muli v2386 c128_i32_812
  let v2608 : Index := Scalar.indexCast v2387
  let c0_935 : Index := 0#32
  ![11, v2608.toNat, 0]
def k0_off31 (k0_t2 : Fin k0_t2_loop.trips) : Fin 3 → Nat :=
  let c12_945 : Index := 12#32
  let c15_i32 : BitVec 32 := 15#32
  let c1_i32_625 : BitVec 32 := 1#32
  let c1_i32_627 : BitVec 32 := 1#32
  let arg8 : BitVec 32 := Scf.iv c1_i32_625 c1_i32_627 k0_t2
  let v2386 : BitVec 32 := Scalar.subi c15_i32 arg8
  let c128_i32_812 : BitVec 32 := 128#32
  let v2387 : BitVec 32 := Scalar.muli v2386 c128_i32_812
  let v2628 : Index := Scalar.indexCast v2387
  let c0_946 : Index := 0#32
  ![12, v2628.toNat, 0]
def k0_off32 (k0_t2 : Fin k0_t2_loop.trips) : Fin 3 → Nat :=
  let c13_956 : Index := 13#32
  let c15_i32 : BitVec 32 := 15#32
  let c1_i32_625 : BitVec 32 := 1#32
  let c1_i32_627 : BitVec 32 := 1#32
  let arg8 : BitVec 32 := Scf.iv c1_i32_625 c1_i32_627 k0_t2
  let v2386 : BitVec 32 := Scalar.subi c15_i32 arg8
  let c128_i32_812 : BitVec 32 := 128#32
  let v2387 : BitVec 32 := Scalar.muli v2386 c128_i32_812
  let v2648 : Index := Scalar.indexCast v2387
  let c0_957 : Index := 0#32
  ![13, v2648.toNat, 0]
def k0_off33 (k0_t2 : Fin k0_t2_loop.trips) : Fin 3 → Nat :=
  let c14_967 : Index := 14#32
  let c15_i32 : BitVec 32 := 15#32
  let c1_i32_625 : BitVec 32 := 1#32
  let c1_i32_627 : BitVec 32 := 1#32
  let arg8 : BitVec 32 := Scf.iv c1_i32_625 c1_i32_627 k0_t2
  let v2386 : BitVec 32 := Scalar.subi c15_i32 arg8
  let c128_i32_812 : BitVec 32 := 128#32
  let v2387 : BitVec 32 := Scalar.muli v2386 c128_i32_812
  let v2668 : Index := Scalar.indexCast v2387
  let c0_968 : Index := 0#32
  ![14, v2668.toNat, 0]
def k0_off34 (k0_t2 : Fin k0_t2_loop.trips) : Fin 3 → Nat :=
  let c15_978 : Index := 15#32
  let c15_i32 : BitVec 32 := 15#32
  let c1_i32_625 : BitVec 32 := 1#32
  let c1_i32_627 : BitVec 32 := 1#32
  let arg8 : BitVec 32 := Scf.iv c1_i32_625 c1_i32_627 k0_t2
  let v2386 : BitVec 32 := Scalar.subi c15_i32 arg8
  let c128_i32_812 : BitVec 32 := 128#32
  let v2387 : BitVec 32 := Scalar.muli v2386 c128_i32_812
  let v2688 : Index := Scalar.indexCast v2387
  let c0_979 : Index := 0#32
  ![15, v2688.toNat, 0]
@[reducible] def k0_t3_loop : Scf.Loop 32 :=
  let c0_i32_991 : BitVec 32 := 0#32
  let c8_i32 : BitVec 32 := 8#32
  let v2710 : BitVec 32 := Scalar.addi c0_i32_991 c8_i32
  let c1_i32_992 : BitVec 32 := 1#32
  ⟨c0_i32_991, v2710, c1_i32_992⟩
def k0_off35 (k0_t3 : Fin k0_t3_loop.trips) (c0_i32_995 : BitVec 32) : Fin 3 → Nat :=
  let c0_996 : Index := 0#32
  let c0_i32_994 : BitVec 32 := 0#32
  let c0_i32_991 : BitVec 32 := 0#32
  let c1_i32_992 : BitVec 32 := 1#32
  let arg13 : BitVec 32 := Scf.iv c0_i32_991 c1_i32_992 k0_t3
  let c16_i32 : BitVec 32 := 16#32
  let v2712 : BitVec 32 := Scalar.muli arg13 c16_i32
  let v2713 : BitVec 32 := Scalar.addi c0_i32_994 v2712
  let v2714 : BitVec 32 := Scalar.addi v2713 c0_i32_995
  let v2715 : Index := Scalar.indexCast v2714
  let c0_997 : Index := 0#32
  ![0, v2715.toNat, 0]
def k0_off36 (k0_t3 : Fin k0_t3_loop.trips) (c0_i32_995 : BitVec 32) : Fin 3 → Nat :=
  let c0_1001 : Index := 0#32
  let c127_i32 : BitVec 32 := 127#32
  let c0_i32_994 : BitVec 32 := 0#32
  let c0_i32_991 : BitVec 32 := 0#32
  let c1_i32_992 : BitVec 32 := 1#32
  let arg13 : BitVec 32 := Scf.iv c0_i32_991 c1_i32_992 k0_t3
  let c16_i32 : BitVec 32 := 16#32
  let v2712 : BitVec 32 := Scalar.muli arg13 c16_i32
  let v2713 : BitVec 32 := Scalar.addi c0_i32_994 v2712
  let v2714 : BitVec 32 := Scalar.addi v2713 c0_i32_995
  let v2747 : BitVec 32 := Scalar.subi c127_i32 v2714
  let v2749 : Index := Scalar.indexCast v2747
  let c0_1002 : Index := 0#32
  ![0, v2749.toNat, 0]
abbrev stage0_0 : Fin 1 → Memref sig .tc .vmem S16x2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "floor" => some ⊥
  | "mask" => some ⊥
  | _ => none
-- ==== ReferenceIdeal.lean ====
abbrev S16x2048x64 : Shape := ⟨3, ![16, 2048, 64]⟩
abbrev S16x256 : Shape := ⟨2, ![16, 256]⟩
abbrev S16 : Shape := ⟨1, ![16]⟩
abbrev S_ : Shape := ⟨0, ![]⟩
abbrev S16x2048 : Shape := ⟨2, ![16, 2048]⟩
abbrev S16x2048x1 : Shape := ⟨3, ![16, 2048, 1]⟩
abbrev S16x256x1 : Shape := ⟨3, ![16, 256, 1]⟩
abbrev S16x256x2 : Shape := ⟨3, ![16, 256, 2]⟩
abbrev S16x512 : Shape := ⟨2, ![16, 512]⟩
abbrev S16x1 : Shape := ⟨2, ![16, 1]⟩
abbrev S16x513 : Shape := ⟨2, ![16, 513]⟩
abbrev S16x2 : Shape := ⟨2, ![16, 2]⟩
abbrev S16x511 : Shape := ⟨2, ![16, 511]⟩
abbrev S16x1x64 : Shape := ⟨3, ![16, 1, 64]⟩
abbrev S16x64 : Shape := ⟨2, ![16, 64]⟩
abbrev S16x513x1 : Shape := ⟨3, ![16, 513, 1]⟩
abbrev S16x1x1 : Shape := ⟨3, ![16, 1, 1]⟩

abbrev nBuf : Space → Nat
  | .hbm => 177
  | .vmem => 0
  | .smem => 0
  | _ => 0

abbrev hbmTy0_0 (i : Nat) : BufTy := match i % 128 with
  | 0 => ⟨S16x2048x64, .f32⟩
  | 1 => ⟨S16x256, .i32⟩
  | 2 => ⟨S16, .i32⟩
  | 3 => ⟨S16, .i32⟩
  | 4 => ⟨S_, .f32⟩
  | 5 => ⟨S16x2048, .f32⟩
  | 6 => ⟨S_, .f32⟩
  | 7 => ⟨S16x2048, .f32⟩
  | 8 => ⟨S16x2048, .f32⟩
  | 9 => ⟨S16x2048x1, .f32⟩
  | 10 => ⟨S16x2048x64, .f32⟩
  | 11 => ⟨S16x2048x64, .f32⟩
  | 12 => ⟨S16x2048x64, .f32⟩
  | 13 => ⟨S_, .f32⟩
  | 14 => ⟨S16x2048, .f32⟩
  | 15 => ⟨S16x2048x1, .f32⟩
  | 16 => ⟨S16x2048x1, .f32⟩
  | 17 => ⟨S16x2048x64, .f32⟩
  | 18 => ⟨S16x2048x64, .f32⟩
  | 19 => ⟨S_, .i32⟩
  | 20 => ⟨S16x256, .i32⟩
  | 21 => ⟨S16x256x1, .i32⟩
  | 22 => ⟨S16x256x1, .i32⟩
  | 23 => ⟨S16x256x2, .i32⟩
  | 24 => ⟨S16x512, .i32⟩
  | 25 => ⟨S_, .i32⟩
  | 26 => ⟨S16x1, .i32⟩
  | 27 => ⟨S16x513, .i32⟩
  | 28 => ⟨S_, .i32⟩
  | 29 => ⟨S16x2, .i32⟩
  | 30 => ⟨S16x511, .i32⟩
  | 31 => ⟨S16x513, .i32⟩
  | 32 => ⟨S_, .i32⟩
  | 33 => ⟨S16x513, .i32⟩
  | 34 => ⟨S16x513, .i1⟩
  | 35 => ⟨S16x513, .i1⟩
  | 36 => ⟨S16x513, .i1⟩
  | 37 => ⟨S16x513, .i32⟩
  | 38 => ⟨S_, .i32⟩
  | 39 => ⟨S16x513, .i32⟩
  | 40 => ⟨S16x513, .i1⟩
  | 41 => ⟨S16x1x64, .f32⟩
  | 42 => ⟨S16x64, .f32⟩
  | 43 => ⟨S_, .i32⟩
  | 44 => ⟨S16x513, .i32⟩
  | 45 => ⟨S16x513, .i1⟩
  | 46 => ⟨S_, .i32⟩
  | 47 => ⟨S16x513, .i32⟩
  | 48 => ⟨S16x513, .i32⟩
  | 49 => ⟨S16x513, .i32⟩
  | 50 => ⟨S16x513x1, .i32⟩
  | 51 => ⟨S16x513, .f32⟩
  | 52 => ⟨S_, .f32⟩
  | 53 => ⟨S_, .f32⟩
  | 54 => ⟨S16x513, .f32⟩
  | 55 => ⟨S16x513, .f32⟩
  | 56 => ⟨S_, .i32⟩
  | 57 => ⟨S_, .i32⟩
  | 58 => ⟨S16x513, .i1⟩
  | 59 => ⟨S16x2048x64, .f32⟩
  | 60 => ⟨S16x513, .i32⟩
  | 61 => ⟨S16, .i32⟩
  | 62 => ⟨S_, .i32⟩
  | 63 => ⟨S_, .i32⟩
  | 64 => ⟨S16x513, .f32⟩
  | 65 => ⟨S_, .i32⟩
  | 66 => ⟨S_, .i1⟩
  | 67 => ⟨S_, .i32⟩
  | 68 => ⟨S_, .i32⟩
  | 69 => ⟨S_, .f32⟩
  | 70 => ⟨S16x1, .f32⟩
  | 71 => ⟨S16x512, .f32⟩
  | 72 => ⟨S16x513, .f32⟩
  | 73 => ⟨S_, .f32⟩
  | 74 => ⟨S16x2, .f32⟩
  | 75 => ⟨S16x511, .f32⟩
  | 76 => ⟨S16x513, .f32⟩
  | 77 => ⟨S_, .f32⟩
  | 78 => ⟨S_, .f32⟩
  | 79 => ⟨S16x513, .f32⟩
  | 80 => ⟨S16x513, .f32⟩
  | 81 => ⟨S16x513, .f32⟩
  | 82 => ⟨S16x513, .f32⟩
  | 83 => ⟨S16x513, .i1⟩
  | 84 => ⟨S16x513, .f32⟩
  | 85 => ⟨S16x513, .f32⟩
  | 86 => ⟨S16x513, .f32⟩
  | 87 => ⟨S16x513, .f32⟩
  | 88 => ⟨S16x513, .f32⟩
  | 89 => ⟨S16x513, .f32⟩
  | 90 => ⟨S16x513, .f32⟩
  | 91 => ⟨S16x513, .f32⟩
  | 92 => ⟨S16x513, .f32⟩
  | 93 => ⟨S16x513, .i1⟩
  | 94 => ⟨S16x513, .f32⟩
  | 95 => ⟨S16x513, .f32⟩
  | 96 => ⟨S16x513, .f32⟩
  | 97 => ⟨S16x513, .f32⟩
  | 98 => ⟨S16x513, .f32⟩
  | 99 => ⟨S16x513, .f32⟩
  | 100 => ⟨S16x513, .f32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S16x1x64, .f32⟩
  | 110 => ⟨S16x64, .f32⟩
  | 111 => ⟨S_, .i32⟩
  | 112 => ⟨S16x513, .i32⟩
  | 113 => ⟨S16x513, .i1⟩
  | 114 => ⟨S_, .i32⟩
  | 115 => ⟨S16x513, .i32⟩
  | 116 => ⟨S16x513, .i32⟩
  | 117 => ⟨S16x513, .i32⟩
  | 118 => ⟨S16x513x1, .i32⟩
  | 119 => ⟨S16x513, .f32⟩
  | 120 => ⟨S16x513, .f32⟩
  | 121 => ⟨S16x1, .i32⟩
  | 122 => ⟨S_, .i32⟩
  | 123 => ⟨S16x1, .i32⟩
  | 124 => ⟨S16x1, .i1⟩
  | 125 => ⟨S16x513, .i1⟩
  | 126 => ⟨S16x513, .f32⟩
  | 127 => ⟨S_, .i32⟩
  | _ => ⟨S16x2048x64, .f32⟩

abbrev hbmTy0_1 (i : Nat) : BufTy := match i % 128 with
  | 0 => ⟨S_, .i32⟩
  | 1 => ⟨S16x1, .i32⟩
  | 2 => ⟨S_, .i32⟩
  | 3 => ⟨S16x1, .i32⟩
  | 4 => ⟨S16x1, .i32⟩
  | 5 => ⟨S_, .i32⟩
  | 6 => ⟨S16x1, .i32⟩
  | 7 => ⟨S16x1, .i1⟩
  | 8 => ⟨S_, .i32⟩
  | 9 => ⟨S16x1, .i32⟩
  | 10 => ⟨S16x1, .i32⟩
  | 11 => ⟨S16x1, .i32⟩
  | 12 => ⟨S16x1x1, .i32⟩
  | 13 => ⟨S16x1, .f32⟩
  | 14 => ⟨S_, .i32⟩
  | 15 => ⟨S16x1, .i32⟩
  | 16 => ⟨S16x1, .i32⟩
  | 17 => ⟨S_, .i32⟩
  | 18 => ⟨S16x1, .i32⟩
  | 19 => ⟨S16x1, .i32⟩
  | 20 => ⟨S_, .i32⟩
  | 21 => ⟨S16x1, .i32⟩
  | 22 => ⟨S16x1, .i1⟩
  | 23 => ⟨S_, .i32⟩
  | 24 => ⟨S16x1, .i32⟩
  | 25 => ⟨S16x1, .i32⟩
  | 26 => ⟨S16x1, .i32⟩
  | 27 => ⟨S16x1x1, .i32⟩
  | 28 => ⟨S16x1, .f32⟩
  | 29 => ⟨S16x1, .i32⟩
  | 30 => ⟨S_, .i32⟩
  | 31 => ⟨S16x1, .i32⟩
  | 32 => ⟨S16x1, .i1⟩
  | 33 => ⟨S_, .f32⟩
  | 34 => ⟨S_, .f32⟩
  | 35 => ⟨S16x1, .f32⟩
  | 36 => ⟨S16x1, .f32⟩
  | 37 => ⟨S16x1, .f32⟩
  | 38 => ⟨S16x1, .f32⟩
  | 39 => ⟨S16x1, .i1⟩
  | 40 => ⟨S16x1, .f32⟩
  | 41 => ⟨S16x1, .f32⟩
  | 42 => ⟨S16x1, .f32⟩
  | 43 => ⟨S16x1, .f32⟩
  | 44 => ⟨S16x1, .f32⟩
  | 45 => ⟨S16x1, .f32⟩
  | 46 => ⟨S16x1, .f32⟩
  | 47 => ⟨S16, .f32⟩
  | 48 => ⟨S16, .f32⟩
  | _ => ⟨S16x2048x64, .f32⟩

abbrev hbmTy (i : Nat) : BufTy := match i / 128 with
  | 0 => hbmTy0_0 i
  | 1 => hbmTy0_1 i
  | _ => ⟨S16x2048x64, .f32⟩

abbrev bufTy : (tb : Table) → Fin (tcTables nBuf tb) → BufTy
  | .hbm, ⟨i, _⟩ => hbmTy i
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_c_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_v20 : Ref sig .tc := ⟨.hbm, 51, rfl⟩
abbrev main_cst : Ref sig .tc := ⟨.hbm, 52, rfl⟩
abbrev main_call2_v0 : Ref sig .tc := ⟨.hbm, 53, rfl⟩
abbrev main_call2_v1 : Ref sig .tc := ⟨.hbm, 54, rfl⟩
abbrev main_v21 : Ref sig .tc := ⟨.hbm, 55, rfl⟩
abbrev main_c_4 : Ref sig .tc := ⟨.hbm, 56, rfl⟩
abbrev main_c_5 : Ref sig .tc := ⟨.hbm, 57, rfl⟩
abbrev main_v22_0 : Ref sig .tc := ⟨.hbm, 58, rfl⟩
abbrev main_v22_1 : Ref sig .tc := ⟨.hbm, 59, rfl⟩
abbrev main_v22_2 : Ref sig .tc := ⟨.hbm, 60, rfl⟩
abbrev main_v22_3 : Ref sig .tc := ⟨.hbm, 61, rfl⟩
abbrev main_v22_4 : Ref sig .tc := ⟨.hbm, 62, rfl⟩
abbrev main_v22_5 : Ref sig .tc := ⟨.hbm, 63, rfl⟩
abbrev main_v22_6 : Ref sig .tc := ⟨.hbm, 64, rfl⟩
abbrev main_while0c_c_17 : Ref sig .tc := ⟨.hbm, 65, rfl⟩
abbrev main_while0c_v48 : Ref sig .tc := ⟨.hbm, 66, rfl⟩
abbrev main_while0b_c_17 : Ref sig .tc := ⟨.hbm, 67, rfl⟩
abbrev main_while0b_v48 : Ref sig .tc := ⟨.hbm, 68, rfl⟩
abbrev main_while0b_cst_18 : Ref sig .tc := ⟨.hbm, 69, rfl⟩
abbrev main_while0b_v49 : Ref sig .tc := ⟨.hbm, 70, rfl⟩
abbrev main_while0b_v50 : Ref sig .tc := ⟨.hbm, 71, rfl⟩
abbrev main_while0b_v51 : Ref sig .tc := ⟨.hbm, 72, rfl⟩
abbrev main_while0b_cst_19 : Ref sig .tc := ⟨.hbm, 73, rfl⟩
abbrev main_while0b_v52 : Ref sig .tc := ⟨.hbm, 74, rfl⟩
abbrev main_while0b_v53 : Ref sig .tc := ⟨.hbm, 75, rfl⟩
abbrev main_while0b_v54 : Ref sig .tc := ⟨.hbm, 76, rfl⟩
abbrev main_while0b_cst_20 : Ref sig .tc := ⟨.hbm, 77, rfl⟩
abbrev main_while0b_call3_v0 : Ref sig .tc := ⟨.hbm, 78, rfl⟩
abbrev main_while0b_call3_v1 : Ref sig .tc := ⟨.hbm, 79, rfl⟩
abbrev main_while0b_v55 : Ref sig .tc := ⟨.hbm, 80, rfl⟩
abbrev main_while0b_v56 : Ref sig .tc := ⟨.hbm, 81, rfl⟩
abbrev main_while0b_v57 : Ref sig .tc := ⟨.hbm, 82, rfl⟩
abbrev main_while0b_v58 : Ref sig .tc := ⟨.hbm, 83, rfl⟩
abbrev main_while0b_v59 : Ref sig .tc := ⟨.hbm, 84, rfl⟩
abbrev main_while0b_v60 : Ref sig .tc := ⟨.hbm, 85, rfl⟩
abbrev main_while0b_v61 : Ref sig .tc := ⟨.hbm, 86, rfl⟩
abbrev main_while0b_v62 : Ref sig .tc := ⟨.hbm, 87, rfl⟩
abbrev main_while0b_v63 : Ref sig .tc := ⟨.hbm, 88, rfl⟩
abbrev main_while0b_v64 : Ref sig .tc := ⟨.hbm, 89, rfl⟩
abbrev main_while0b_v65 : Ref sig .tc := ⟨.hbm, 90, rfl⟩
abbrev main_while0b_v66 : Ref sig .tc := ⟨.hbm, 91, rfl⟩
abbrev main_while0b_v67 : Ref sig .tc := ⟨.hbm, 92, rfl⟩
abbrev main_while0b_v68 : Ref sig .tc := ⟨.hbm, 93, rfl⟩
abbrev main_while0b_v69 : Ref sig .tc := ⟨.hbm, 94, rfl⟩
abbrev main_while0b_v70 : Ref sig .tc := ⟨.hbm, 95, rfl⟩
abbrev main_while0b_v71 : Ref sig .tc := ⟨.hbm, 96, rfl⟩
abbrev main_while0b_v72 : Ref sig .tc := ⟨.hbm, 97, rfl⟩
abbrev main_while0b_v73 : Ref sig .tc := ⟨.hbm, 98, rfl⟩
abbrev main_while0b_v74 : Ref sig .tc := ⟨.hbm, 99, rfl⟩
abbrev main_while0b_v75 : Ref sig .tc := ⟨.hbm, 100, rfl⟩
abbrev main_while0b_call4_c : Ref sig .tc := ⟨.hbm, 101, rfl⟩
abbrev main_while0b_call4_v0 : Ref sig .tc := ⟨.hbm, 102, rfl⟩
abbrev main_while0b_call4_v1 : Ref sig .tc := ⟨.hbm, 103, rfl⟩
abbrev main_while0b_call4_c_0 : Ref sig .tc := ⟨.hbm, 104, rfl⟩
abbrev main_while0b_call4_v2 : Ref sig .tc := ⟨.hbm, 105, rfl⟩
abbrev main_while0b_call4_v3 : Ref sig .tc := ⟨.hbm, 106, rfl⟩
abbrev main_while0b_call4_c_1 : Ref sig .tc := ⟨.hbm, 107, rfl⟩
abbrev main_while0b_call4_c_2 : Ref sig .tc := ⟨.hbm, 108, rfl⟩
abbrev main_while0b_call4_v4 : Ref sig .tc := ⟨.hbm, 109, rfl⟩
abbrev main_while0b_v76 : Ref sig .tc := ⟨.hbm, 110, rfl⟩
abbrev main_while0b_call5_c : Ref sig .tc := ⟨.hbm, 111, rfl⟩
abbrev main_while0b_call5_v0 : Ref sig .tc := ⟨.hbm, 112, rfl⟩
abbrev main_while0b_call5_v1 : Ref sig .tc := ⟨.hbm, 113, rfl⟩
abbrev main_while0b_call5_c_0 : Ref sig .tc := ⟨.hbm, 114, rfl⟩
abbrev main_while0b_call5_v2 : Ref sig .tc := ⟨.hbm, 115, rfl⟩
abbrev main_while0b_call5_v3 : Ref sig .tc := ⟨.hbm, 116, rfl⟩
abbrev main_while0b_call5_v4 : Ref sig .tc := ⟨.hbm, 117, rfl⟩
abbrev main_while0b_call5_v5 : Ref sig .tc := ⟨.hbm, 118, rfl⟩
abbrev main_while0b_v77 : Ref sig .tc := ⟨.hbm, 119, rfl⟩
abbrev main_while0b_v78 : Ref sig .tc := ⟨.hbm, 120, rfl⟩
abbrev main_while0b_v79 : Ref sig .tc := ⟨.hbm, 121, rfl⟩
abbrev main_while0b_v80 : Ref sig .tc := ⟨.hbm, 122, rfl⟩
abbrev main_while0b_v81 : Ref sig .tc := ⟨.hbm, 123, rfl⟩
abbrev main_while0b_v82 : Ref sig .tc := ⟨.hbm, 124, rfl⟩
abbrev main_while0b_call6_v0 : Ref sig .tc := ⟨.hbm, 125, rfl⟩
abbrev main_while0b_v83 : Ref sig .tc := ⟨.hbm, 126, rfl⟩
abbrev main_while0b_c_21 : Ref sig .tc := ⟨.hbm, 127, rfl⟩
abbrev main_while0b_v84 : Ref sig .tc := ⟨.hbm, 128, rfl⟩
abbrev main_v23 : Ref sig .tc := ⟨.hbm, 129, rfl⟩
abbrev main_c_6 : Ref sig .tc := ⟨.hbm, 130, rfl⟩
abbrev main_v24 : Ref sig .tc := ⟨.hbm, 131, rfl⟩
abbrev main_v25 : Ref sig .tc := ⟨.hbm, 132, rfl⟩
abbrev main_call7_c : Ref sig .tc := ⟨.hbm, 133, rfl⟩
abbrev main_call7_v0 : Ref sig .tc := ⟨.hbm, 134, rfl⟩
abbrev main_call7_v1 : Ref sig .tc := ⟨.hbm, 135, rfl⟩
abbrev main_call7_c_0 : Ref sig .tc := ⟨.hbm, 136, rfl⟩
abbrev main_call7_v2 : Ref sig .tc := ⟨.hbm, 137, rfl⟩
abbrev main_call7_v3 : Ref sig .tc := ⟨.hbm, 138, rfl⟩
abbrev main_call7_v4 : Ref sig .tc := ⟨.hbm, 139, rfl⟩
abbrev main_call7_v5 : Ref sig .tc := ⟨.hbm, 140, rfl⟩
abbrev main_v26 : Ref sig .tc := ⟨.hbm, 141, rfl⟩
abbrev main_c_7 : Ref sig .tc := ⟨.hbm, 142, rfl⟩
abbrev main_v27 : Ref sig .tc := ⟨.hbm, 143, rfl⟩
abbrev main_v28 : Ref sig .tc := ⟨.hbm, 144, rfl⟩
abbrev main_c_8 : Ref sig .tc := ⟨.hbm, 145, rfl⟩
abbrev main_v29 : Ref sig .tc := ⟨.hbm, 146, rfl⟩
abbrev main_v30 : Ref sig .tc := ⟨.hbm, 147, rfl⟩
abbrev main_call8_c : Ref sig .tc := ⟨.hbm, 148, rfl⟩
abbrev main_call8_v0 : Ref sig .tc := ⟨.hbm, 149, rfl⟩
abbrev main_call8_v1 : Ref sig .tc := ⟨.hbm, 150, rfl⟩
abbrev main_call8_c_0 : Ref sig .tc := ⟨.hbm, 151, rfl⟩
abbrev main_call8_v2 : Ref sig .tc := ⟨.hbm, 152, rfl⟩
abbrev main_call8_v3 : Ref sig .tc := ⟨.hbm, 153, rfl⟩
abbrev main_call8_v4 : Ref sig .tc := ⟨.hbm, 154, rfl⟩
abbrev main_call8_v5 : Ref sig .tc := ⟨.hbm, 155, rfl⟩
abbrev main_v31 : Ref sig .tc := ⟨.hbm, 156, rfl⟩
abbrev main_v32 : Ref sig .tc := ⟨.hbm, 157, rfl⟩
abbrev main_c_9 : Ref sig .tc := ⟨.hbm, 158, rfl⟩
abbrev main_v33 : Ref sig .tc := ⟨.hbm, 159, rfl⟩
abbrev main_v34 : Ref sig .tc := ⟨.hbm, 160, rfl⟩
abbrev main_cst_10 : Ref sig .tc := ⟨.hbm, 161, rfl⟩
abbrev main_call9_v0 : Ref sig .tc := ⟨.hbm, 162, rfl⟩
abbrev main_call9_v1 : Ref sig .tc := ⟨.hbm, 163, rfl⟩
abbrev main_v35 : Ref sig .tc := ⟨.hbm, 164, rfl⟩
abbrev main_v36 : Ref sig .tc := ⟨.hbm, 165, rfl⟩
abbrev main_v37 : Ref sig .tc := ⟨.hbm, 166, rfl⟩
abbrev main_v38 : Ref sig .tc := ⟨.hbm, 167, rfl⟩
abbrev main_v39 : Ref sig .tc := ⟨.hbm, 168, rfl⟩
abbrev main_v40 : Ref sig .tc := ⟨.hbm, 169, rfl⟩
abbrev main_v41 : Ref sig .tc := ⟨.hbm, 170, rfl⟩
abbrev main_v42 : Ref sig .tc := ⟨.hbm, 171, rfl⟩
abbrev main_v43 : Ref sig .tc := ⟨.hbm, 172, rfl⟩
abbrev main_v44 : Ref sig .tc := ⟨.hbm, 173, rfl⟩
abbrev main_v45 : Ref sig .tc := ⟨.hbm, 174, rfl⟩
abbrev main_v46 : Ref sig .tc := ⟨.hbm, 175, rfl⟩
abbrev main_v47 : Ref sig .tc := ⟨.hbm, 176, rfl⟩

abbrev nD : Nat := 1
abbrev τ : Topo := Topo.v7x

variable {F : FTy → Type} [FloatOps F]

abbrev main_while0_count : Scf.Loop 32 := ⟨0#32, 2047#32, 1#32⟩
-- ==== Proof.Outer.lean ====
/- The outer loop over blocks of time, by its invariant. -/
module

public import proofs.«01_k».proof.Proof.Gen.KernelIdeal.Loops

@[expose] public section

set_option maxRecDepth 16384
set_option maxHeartbeats 4000000

noncomputable section

namespace Cert.KernelIdeal.Outer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The four carried rows. -/
abbrev Car (F : FTy → Type) [FloatOps F] : Type :=
  FVec F S16x384 .f32 × FVec F S16x384 .f32 × FVec F S16x384 .f32 × FVec F S16x384 .f32

/-- What a trip of the outer loop touches: the logits and the one-hot rows read at their contents,
the two emission buffers at some contents. -/
abbrev Held (c : Dev nD) (arg0 : Memref sig .tc .vmem S16x2048x64 .f32) (arg5 arg6 : Memref sig .tc .vmem S16x128x384 .f32) (arg7 : Memref sig .tc .vmem S16x64x384 .f32)
    (X0 : BufTy.Contents (Elt F) arg0.view.ty) (X7 : BufTy.Contents (Elt F) arg7.view.ty) : sProp 𝕄G :=
  iprop((arg0.view.loc (c : Thread nD τ) ↦[arg0.view.set]{fullShare} X0) ∗ (arg7.view.loc (c : Thread nD τ) ↦[arg7.view.set]{fullShare} X7)
    ∗ (∃ f, arg5.view.loc (c : Thread nD τ) ↦[arg5.view.set]{fullShare} f) ∗ (∃ f, arg6.view.loc (c : Thread nD τ) ↦[arg6.view.set]{fullShare} f))

/-- One trip of the outer loop: what it yields is a function of the carried rows alone. -/
@[irreducible] def trip (𝒱 : Variants) (c : Dev nD) (bd : Option 𝒱.V) (arg0 : Memref sig .tc .vmem S16x2048x64 .f32) (harg0 : arg0.IsWhole) (arg1 : Memref sig .tc .vmem S16x256 .i32) (harg1 : arg1.IsWhole) (arg2 : Memref sig .tc .vmem S16x1 .i32) (harg2 : arg2.IsWhole) (arg3 : Memref sig .tc .vmem S16x1 .i32) (harg3 : arg3.IsWhole) (arg4 : Memref sig .tc .vmem S16x128 .f32) (harg4 : arg4.IsWhole) (arg5 : Memref sig .tc .vmem S16x128x384 .f32) (harg5 : arg5.IsWhole) (arg6 : Memref sig .tc .vmem S16x128x384 .f32) (harg6 : arg6.IsWhole) (arg7 : Memref sig .tc .vmem S16x64x384 .f32) (harg7 : arg7.IsWhole)
    (v176 v179 : FVec F S16x384 .f32) (v181 : IVec S16x1 32) (v188 v195 : FVec F S16x384 .f32) (X0 : BufTy.Contents (Elt F) arg0.view.ty) (X7 : BufTy.Contents (Elt F) arg7.view.ty) (k : Fin k0_t2_loop.trips) :
    { R : Car F → Car F // ∀ (E : Set ℕ) (acc : Car F),
      Held (F := F) c arg0 arg5 arg6 arg7 X0 X7
      ⊢ wp frame (wpE (defs₀ (F := F)) 𝒱 (c : Thread nD τ) bd) E (k0_t2_body (F := F) arg0 harg0 arg1 harg1 arg2 harg2 arg3 harg3 arg4 harg4 arg5 harg5 arg6 harg6 arg7 harg7 v176 v179 v181 v188 v195 k acc)
          (fun yld => iprop(⌜yld = R acc⌝ ∗ Held (F := F) c arg0 arg5 arg6 arg7 X0 X7)) } := by
  have hk : k.val < 7 := Nat.lt_of_lt_of_le k.isLt k0_t2_abs.2.1
  refine ⟨?_, fun E acc => ?run⟩
  case run =>
    unfold k0_t2_body
    iintro ⟨H0, H7, ⟨%f5, H5⟩, ⟨%f6, H6⟩⟩
    sl_exec
    sl_step
    sl_close

/-- The carried rows before trip `k`, from those the loop starts with. -/
def st (𝒱 : Variants) (c : Dev nD) (bd : Option 𝒱.V) (arg0 : Memref sig .tc .vmem S16x2048x64 .f32) (harg0 : arg0.IsWhole) (arg1 : Memref sig .tc .vmem S16x256 .i32) (harg1 : arg1.IsWhole) (arg2 : Memref sig .tc .vmem S16x1 .i32) (harg2 : arg2.IsWhole) (arg3 : Memref sig .tc .vmem S16x1 .i32) (harg3 : arg3.IsWhole) (arg4 : Memref sig .tc .vmem S16x128 .f32) (harg4 : arg4.IsWhole) (arg5 : Memref sig .tc .vmem S16x128x384 .f32) (harg5 : arg5.IsWhole) (arg6 : Memref sig .tc .vmem S16x128x384 .f32) (harg6 : arg6.IsWhole) (arg7 : Memref sig .tc .vmem S16x64x384 .f32) (harg7 : arg7.IsWhole)
    (v176 v179 : FVec F S16x384 .f32) (v181 : IVec S16x1 32) (v188 v195 : FVec F S16x384 .f32) (X0 : BufTy.Contents (Elt F) arg0.view.ty) (X7 : BufTy.Contents (Elt F) arg7.view.ty) (init : Car F) : ℕ → Car F
  | 0 => init
  | k + 1 =>
    if h : k < k0_t2_loop.trips then
      (trip (F := F) 𝒱 c bd arg0 harg0 arg1 harg1 arg2 harg2 arg3 harg3 arg4 harg4 arg5 harg5 arg6 harg6 arg7 harg7 v176 v179 v181 v188 v195 X0 X7 ⟨k, h⟩).1 (st 𝒱 c bd arg0 harg0 arg1 harg1 arg2 harg2 arg3 harg3 arg4 harg4 arg5 harg5 arg6 harg6 arg7 harg7 v176 v179 v181 v188 v195 X0 X7 init k)
    else st 𝒱 c bd arg0 harg0 arg1 harg1 arg2 harg2 arg3 harg3 arg4 harg4 arg5 harg5 arg6 harg6 arg7 harg7 v176 v179 v181 v188 v195 X0 X7 init k

theorem st_succ (𝒱 : Variants) (c : Dev nD) (bd : Option 𝒱.V) (arg0 : Memref sig .tc .vmem S16x2048x64 .f32) (harg0 : arg0.IsWhole) (arg1 : Memref sig .tc .vmem S16x256 .i32) (harg1 : arg1.IsWhole) (arg2 : Memref sig .tc .vmem S16x1 .i32) (harg2 : arg2.IsWhole) (arg3 : Memref sig .tc .vmem S16x1 .i32) (harg3 : arg3.IsWhole) (arg4 : Memref sig .tc .vmem S16x128 .f32) (harg4 : arg4.IsWhole) (arg5 : Memref sig .tc .vmem S16x128x384 .f32) (harg5 : arg5.IsWhole) (arg6 : Memref sig .tc .vmem S16x128x384 .f32) (harg6 : arg6.IsWhole) (arg7 : Memref sig .tc .vmem S16x64x384 .f32) (harg7 : arg7.IsWhole)
    (v176 v179 : FVec F S16x384 .f32) (v181 : IVec S16x1 32) (v188 v195 : FVec F S16x384 .f32) (X0 : BufTy.Contents (Elt F) arg0.view.ty) (X7 : BufTy.Contents (Elt F) arg7.view.ty) (init : Car F) (k : Fin k0_t2_loop.trips) :
    st (F := F) 𝒱 c bd arg0 harg0 arg1 harg1 arg2 harg2 arg3 harg3 arg4 harg4 arg5 harg5 arg6 harg6 arg7 harg7 v176 v179 v181 v188 v195 X0 X7 init (k.val + 1)
      = (trip (F := F) 𝒱 c bd arg0 harg0 arg1 harg1 arg2 harg2 arg3 harg3 arg4 harg4 arg5 harg5 arg6 harg6 arg7 harg7 v176 v179 v181 v188 v195 X0 X7 k).1 (st (F := F) 𝒱 c bd arg0 harg0 arg1 harg1 arg2 harg2 arg3 harg3 arg4 harg4 arg5 harg5 arg6 harg6 arg7 harg7 v176 v179 v181 v188 v195 X0 X7 init k.val) := by
  rw [st]; exact dif_pos k.isLt

set_option warn.classDefReducibility false in
/-- The outer loop by its invariant: the carried rows are the `k`-th state. -/
@[sl_loop] def loopInv_k0_t2 (𝒱 : Variants) (c : Dev nD) (bd : Option 𝒱.V) (E : Set ℕ) (arg0 : Memref sig .tc .vmem S16x2048x64 .f32) (harg0 : arg0.IsWhole) (arg1 : Memref sig .tc .vmem S16x256 .i32) (harg1 : arg1.IsWhole) (arg2 : Memref sig .tc .vmem S16x1 .i32) (harg2 : arg2.IsWhole) (arg3 : Memref sig .tc .vmem S16x1 .i32) (harg3 : arg3.IsWhole) (arg4 : Memref sig .tc .vmem S16x128 .f32) (harg4 : arg4.IsWhole) (arg5 : Memref sig .tc .vmem S16x128x384 .f32) (harg5 : arg5.IsWhole) (arg6 : Memref sig .tc .vmem S16x128x384 .f32) (harg6 : arg6.IsWhole) (arg7 : Memref sig .tc .vmem S16x64x384 .f32) (harg7 : arg7.IsWhole)
    (v176 v179 : FVec F S16x384 .f32) (v181 : IVec S16x1 32) (v188 v195 : FVec F S16x384 .f32) (init : Car F) (X0 : BufTy.Contents (Elt F) arg0.view.ty) (X7 : BufTy.Contents (Elt F) arg7.view.ty) :
    LoopInvTy_k0_t2 (F := F) Unit ℕ (UR sig nD τ) ℕ 𝒱 c bd E arg0 harg0 arg1 harg1 arg2 harg2 arg3 harg3 arg4 harg4 arg5 harg5 arg6 harg6 arg7 harg7 v176 v179 v181 v188 v195 init where
  inv k acc := iprop(Held (F := F) c arg0 arg5 arg6 arg7 X0 X7 ∗ ⌜acc = st (F := F) 𝒱 c bd arg0 harg0 arg1 harg1 arg2 harg2 arg3 harg3 arg4 harg4 arg5 harg5 arg6 harg6 arg7 harg7 v176 v179 v181 v188 v195 X0 X7 init k⌝)
  step k acc := by
    iintro ⟨HH, %h_acc⟩
    subst h_acc
    iapply (wp_wand_r Idealize.ShloMosaic.frame (wpE (defs₀ (F := F)) 𝒱 (c : Thread nD τ) bd) E)
    isplitl [HH]
    · iapply ((trip (F := F) 𝒱 c bd arg0 harg0 arg1 harg1 arg2 harg2 arg3 harg3 arg4 harg4 arg5 harg5 arg6 harg6 arg7 harg7 v176 v179 v181 v188 v195 X0 X7 k).2 E (st (F := F) 𝒱 c bd arg0 harg0 arg1 harg1 arg2 harg2 arg3 harg3 arg4 harg4 arg5 harg5 arg6 harg6 arg7 harg7 v176 v179 v181 v188 v195 X0 X7 init k))
      iexact HH
    · iintro %yld ⟨%h_res, HH⟩
      isplitl [HH]; · iexact HH
      simp only [st_succ]
      ipureintro; rw [h_res]

end Cert.KernelIdeal.Outer

end
-- ==== Proof.Body.lean ====
/- The whole body of the kernel, run once: what it stores into the result's buffer. -/
module

public import proofs.«01_k».proof.Proof.Outer

@[expose] public section

set_option maxRecDepth 16384
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The four inputs at their contents, the three working buffers at some contents. -/
abbrev Held (c : Dev nD) (arg0 : Memref sig .tc .vmem S16x2048x64 .f32) (arg1 : Memref sig .tc .vmem S16x256 .i32) (arg2 arg3 : Memref sig .tc .vmem S16x1 .i32)
    (arg5 arg6 : Memref sig .tc .vmem S16x128x384 .f32) (arg7 : Memref sig .tc .vmem S16x64x384 .f32)
    (X0 : BufTy.Contents (Elt F) arg0.view.ty) (X1 : BufTy.Contents (Elt F) arg1.view.ty) (X2 : BufTy.Contents (Elt F) arg2.view.ty) (X3 : BufTy.Contents (Elt F) arg3.view.ty) : sProp (MT nD τ sig Unit (Elt F) ℕ (UR sig nD τ) ℕ) :=
  iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f))

/-- The body's run: from the inputs at their contents and everything else at some contents, the result's buffer
is left written by the pieces found here. -/
@[irreducible] def run (c : Dev nD) (arg0 : Memref sig .tc .vmem S16x2048x64 .f32) (harg0 : arg0.IsWhole) (arg1 : Memref sig .tc .vmem S16x256 .i32) (harg1 : arg1.IsWhole) (arg2 : Memref sig .tc .vmem S16x1 .i32) (harg2 : arg2.IsWhole) (arg3 : Memref sig .tc .vmem S16x1 .i32) (harg3 : arg3.IsWhole) (arg4 : Memref sig .tc .vmem S16x128 .f32) (harg4 : arg4.IsWhole) (arg5 : Memref sig .tc .vmem S16x128x384 .f32) (harg5 : arg5.IsWhole) (arg6 : Memref sig .tc .vmem S16x128x384 .f32) (harg6 : arg6.IsWhole) (arg7 : Memref sig .tc .vmem S16x64x384 .f32) (harg7 : arg7.IsWhole)
    (X0 : BufTy.Contents (Elt F) arg0.view.ty) (X1 : BufTy.Contents (Elt F) arg1.view.ty) (X2 : BufTy.Contents (Elt F) arg2.view.ty) (X3 : BufTy.Contents (Elt F) arg3.view.ty) :
    { L : List (View.Piece (Elt F) S16x128 .f32) // ∀ (K : PUnit → sProp (MT nD τ sig Unit (Elt F) ℕ (UR sig nD τ) ℕ)),
      iprop(Held (F := F) c arg0 arg1 arg2 arg3 arg5 arg6 arg7 X0 X1 X2 X3 ∗ (∃ f, arg4.view.loc (c : Thread nD τ) ↦[arg4.view.set]{fullShare} f)
        ∗ (iprop(Held (F := F) c arg0 arg1 arg2 arg3 arg5 arg6 arg7 X0 X1 X2 X3 ∗ (∃ f, arg4.view.loc (c : Thread nD τ) ↦[arg4.view.set]{fullShare} arg4.view.writes (Elt F) f L)) -∗ K ⟨⟩))
      ⊢ wp frame (wpE (defs₀ (F := F)) Variants.none (c : Thread nD τ) none) Set.univ (cc0__ctc_kernel (F := F) arg0 harg0 arg1 harg1 arg2 harg2 arg3 harg3 arg4 harg4 arg5 harg5 arg6 harg6 arg7 harg7) K } := by
  refine ⟨?_, fun K => ?run⟩
  case run =>
    simp only [cc0__ctc_kernel_eq_skeleton]; unfold cc0__ctc_kernel_skel
    iintro ⟨⟨H0, H1, H2, H3, ⟨%f5, H5⟩, ⟨%f6, H6⟩, ⟨%f7, H7⟩⟩, ⟨%f4, H4⟩, Hk⟩
    sl_exec
    sl_step
    iapply Hk
    isplitr [H4]
    · isplitl [H0]; · iexact H0
      isplitl [H1]; · iexact H1
      isplitl [H2]; · iexact H2
      isplitl [H3]; · iexact H3
      isplitl [H5]; · iexists _; iexact H5
      isplitl [H6]; · iexists _; iexact H6
      iexists _; iexact H7
    · iexists _; iexact H4

end Cert.KernelIdeal.Body

end
-- ==== Proof.Launched.lean ====
/- The pipeline's data, the body's obligation and the launch: the kernel runs, ends with its arguments
as they were, its counters at zero and its result's array at what the body stored. -/
module

public import proofs.«01_k».proof.Proof.Body
public import proofs.«01_k».proof.Proof.Gen.KernelIdeal.Frame
public import proofs.«01_k».proof.Proof.Gen.KernelIdeal.Points
public import proofs.«01_k».proof.Proof.Gen.KernelIdeal.Launch

@[expose] public section

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

/-- The pieces the body stores into its result. -/
def pieces (c : Dev nD) (t : Fin cfg0.N) : List (View.Piece (Elt F) S16x128 .f32) :=
  (Body.run (F := F) c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0)
    (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t)).1

/-- The result's buffer read back once the body has run. -/
def out (c : Dev nD) (t : Fin cfg0.N) : Vec F S16x128 .f32 :=
  (win0_4.stage (cfg0.slots t 4)).view.read (Elt F) ((win0_4.stage (cfg0.slots t 4)).view.writes (Elt F) (win0_4.stage (cfg0.slots t 4)).view.junk (pieces m c t))

theorem cover (c : Dev nD) (t : Fin cfg0.N) (y : S16x128.Idx) : ∃ pc ∈ pieces (F := F) m c t, y ∈ pc.1.set := by
  unfold pieces Body.run
  exact View.cover_of_tiledL _ S16x128.size (by sl_kernel_rfl) y

/-- The proof data on core `c`: the arrays as the region finds them, the result's buffer left at `out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out m c t
  Φ _ := Pipeline.ΦA spec0 c
  q _ := fullShare
  owed _ := 0

theorem A_eq (c : Dev nD) (w : Fin cfg0.W) : (dats (F := F) m 0 c).A w = V m c (Pipeline.arrRef spec0 w) := by
  dsimp only [dats]
theorem after_0 (c : Dev nD) (t : Fin cfg0.N) : (dats (F := F) m 0 c).after 0 t = iblk m c 0 t := by dsimp only [dats]
theorem after_1 (c : Dev nD) (t : Fin cfg0.N) : (dats (F := F) m 0 c).after 1 t = iblk m c 1 t := by dsimp only [dats]
theorem after_2 (c : Dev nD) (t : Fin cfg0.N) : (dats (F := F) m 0 c).after 2 t = iblk m c 2 t := by dsimp only [dats]
theorem after_3 (c : Dev nD) (t : Fin cfg0.N) : (dats (F := F) m 0 c).after 3 t = iblk m c 3 t := by dsimp only [dats]
theorem after_4 (c : Dev nD) (t : Fin cfg0.N) : (dats (F := F) m 0 c).after 4 t = out m c t := by dsimp only [dats]
theorem before_0 (c : Dev nD) (t : Fin cfg0.N) (d) : (dats (F := F) m 0 c).before 0 t d = iblk m c 0 t :=
  before0_0_of m (dats m 0 c) (A_eq m c 0) (after_0 m c) t d
theorem before_1 (c : Dev nD) (t : Fin cfg0.N) (d) : (dats (F := F) m 0 c).before 1 t d = iblk m c 1 t :=
  before0_1_of m (dats m 0 c) (A_eq m c 1) (after_1 m c) t d
theorem before_2 (c : Dev nD) (t : Fin cfg0.N) (d) : (dats (F := F) m 0 c).before 2 t d = iblk m c 2 t :=
  before0_2_of m (dats m 0 c) (A_eq m c 2) (after_2 m c) t d
theorem before_3 (c : Dev nD) (t : Fin cfg0.N) (d) : (dats (F := F) m 0 c).before 3 t d = iblk m c 3 t :=
  before0_3_of m (dats m 0 c) (A_eq m c 3) (after_3 m c) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after_0, after_1, after_2, after_3, after_4]
  simp only [before_0, before_1, before_2, before_3]
  rw [show (dats m 0 c).Φ t.castSucc = Pipeline.ΦA spec0 c from rfl]
  unfold Pipeline.ΦA
  rw [scopedRest0_eq]
  unfold Dat.owesAt Pipeline.owesWithin
  rw [show (dats m 0 c).owed t.castSucc = 0 from rfl, show (dats m 0 c).owed t.succ = 0 from rfl]
  unfold out
  unfold owns
  iintro ⟨⟨⟨HS0, HS1, HS2⟩, Hg⟩, ⟨%W, -, HW⟩, ⟨%d0, %f0, %h0, H0⟩, ⟨%d1, %f1, %h1, H1⟩, ⟨%d2, %f2, %h2, H2⟩, ⟨%d3, %f3, %h3, H3⟩, ⟨%d4, %f4, -, H4⟩⟩
  obtain rfl : f0 = iblk m c 0 t := h0
  obtain rfl : f1 = iblk m c 1 t := h1
  obtain rfl : f2 = iblk m c 2 t := h2
  obtain rfl : f3 = iblk m c 3 t := h3
  iapply ((Body.run (F := F) c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0)
    (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t)).2 _)
  unfold Body.Held
  simp only [Memref.view_whole, View.set_whole]
  isplitl [H0 H1 H2 H3 HS0 HS1 HS2]
  · isplitl [H0]; · iexact H0
    isplitl [H1]; · iexact H1
    isplitl [H2]; · iexact H2
    isplitl [H3]; · iexact H3
    isplitl [HS0]; · iexact HS0
    isplitl [HS1]; · iexact HS1
    iexact HS2
  isplitl [H4]; · iexists _; iexact H4
  iintro ⟨⟨H0, H1, H2, H3, HS0, HS1, HS2⟩, ⟨%e4, H4⟩⟩
  isplitl [HS0 HS1 HS2 Hg]
  · isplitr [Hg]
    · isplitl [HS0]; · iexact HS0
      isplitl [HS1]; · iexact HS1
      iexact HS2
    iexact Hg
  isplitl [HW]
  · iexists W; isplitr; · ipureintro; exact fun _ _ => Or.inl trivial
    iexact HW
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  iexists _; isplitr; swap; (· iexact H4)
  ipureintro; exact View.read_writes_of_cover _ _ _ _ _ (cover m c t)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, with the arrays at what the pipeline's data says and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hΦ := fun _ _ => rfl) (Q' := _) (hQ' := fun _ h => h)

/-- The kernel leaves its arguments as they were, and its counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      (((h.1 c).2 main_arg2 (Pipeline.mem_restRefs_of main_arg2 (by decide) (by decide))).trans (W_main_arg2 m (dats m) c)),
      (((h.1 c).2 main_arg3 (Pipeline.mem_restRefs_of main_arg3 (by decide) (by decide))).trans (W_main_arg3 m (dats m) c))⟩, h.2⟩) (run_main m ρ)

end Cert.KernelIdeal.Launched

end
-- ==== Proof.Steps.lean ====
/- One time step of the two sweeps, as functions of a row of emission log-probabilities. -/
module

public import proofs.«01_k».proof.Proof.Gen.KernelIdeal.Loops

@[expose] public section

noncomputable section

namespace Cert.KernelIdeal.Steps

open Cert.KernelIdeal Cert.KernelIdeal.Gen
open Idealize.ShloMosaic Idealize.ShloMosaic.TcCoe Idealize.ShloMosaic.Tactic

variable {F : FTy → Type} [FloatOps F] [Named F]

/-- The stand-in of the mask constant. -/
abbrev NEGc : F .f32 := Named.named κ "mask" 0xF149F2CA#32
/-- The stand-in of the floor constant. -/
abbrev TINYc : F .f32 := Named.named κ "floor" 0x02081CEA#32

abbrev Arr (F : FTy → Type) [FloatOps F] : Type := FVec F S16x384 .f32
/-- The four carried rows: forward even and odd, backward even and odd. -/
abbrev Car (F : FTy → Type) [FloatOps F] : Type := Arr F × Arr F × Arr F × Arr F

/-- The emission row of one time step. -/
def row (g : Vec F S16x1x384 .f32) : Arr F := shapeCast S16x384 g shapeCasts_S16x1x384_S16x384

/-- The blank's emission, on every lane. -/
def blank (g : Vec F S16x1x384 .f32) : Arr F :=
  broadcastTo S16x384 (shapeCast S16x1 (shapeCast S16 (extractStridedSlice S16x1 ![0, 256] (row g) slices_S16x384_o0_256_S16x1) shapeCasts_S16x1_S16) shapeCasts_S16_S16x1) broadcasts_S16x1_S16x384

/-- The lanes moved one to the right, the mask entering. -/
def shr (x : Arr F) : Arr F :=
  concatenate S16x384 1 [⟨S16x1, broadcast S16x1 NEGc⟩, ⟨S16x383, extractStridedSlice S16x383 ![0, 0] x slices_S16x384_o0_0_S16x383⟩] concatenates_S16x1_S16x383_S16x384_d1

/-- The lanes moved one to the left, the mask entering. -/
def shl (x : Arr F) : Arr F :=
  concatenate S16x384 1 [⟨S16x383, extractStridedSlice S16x383 ![0, 1] x slices_S16x384_o0_1_S16x383⟩, ⟨S16x1, broadcast S16x1 NEGc⟩] concatenates_S16x383_S16x1_S16x384_d1

/-- The floored logarithm added to the running maximum. -/
def flog (m z : Arr F) : Arr F := addf m (log (maximumf z (broadcast S16x384 TINYc)))

/-- The forward step's running maximum. -/
def fmx (ae ao : Arr F) : Arr F := maximumf (maximumf ao ae) (shr ao)

/-- The forward step on the odd states. -/
def fO (sk : Arr F) (g : Vec F S16x1x384 .f32) (ae ao : Arr F) : Arr F :=
  addf (flog (fmx ae ao) (addf (addf (exp (subf ao (fmx ae ao))) (exp (subf ae (fmx ae ao)))) (mulf (exp (subf (shr ao) (fmx ae ao))) sk))) (row g)

/-- The forward step on the even states. -/
def fE (g : Vec F S16x1x384 .f32) (ae ao : Arr F) : Arr F :=
  addf (flog (fmx ae ao) (addf (exp (subf ae (fmx ae ao))) (exp (subf (shr ao) (fmx ae ao))))) (blank g)

/-- The lanes the backward step is live on at time `tt`. -/
def live (len : IVec S16x1 32) (tt : BitVec 32) : IVec S16x384 1 :=
  broadcastTo S16x384 (shapeCast S16x1 (cmpi .slt (broadcast S16x1 tt) len) shapeCasts_S16x1_S16x1) broadcasts_S16x1_S16x384

/-- The two-term sum of the backward step. -/
def bsum2 (de dO : Arr F) : Arr F :=
  flog (maximumf de dO) (addf (exp (subf de (maximumf de dO))) (exp (subf dO (maximumf de dO))))

/-- The backward step's running maximum on the odd states. -/
def bmx (de dO : Arr F) : Arr F := maximumf (maximumf dO (shl de)) (shl dO)

/-- The three-term sum of the backward step. -/
def bsum3 (sl : Arr F) (de dO : Arr F) : Arr F :=
  flog (bmx de dO) (addf (addf (exp (subf dO (bmx de dO))) (exp (subf (shl de) (bmx de dO)))) (mulf (exp (subf (shl dO) (bmx de dO))) sl))

/-- The backward step on the even states. -/
def bE (len : IVec S16x1 32) (ie : Arr F) (tt : BitVec 32) (g : Vec F S16x1x384 .f32) (de dO : Arr F) : Arr F :=
  select (live len tt) (bsum2 (addf de (blank g)) (addf dO (row g))) ie

/-- The backward step on the odd states. -/
def bO (sl : Arr F) (len : IVec S16x1 32) (io : Arr F) (tt : BitVec 32) (g : Vec F S16x1x384 .f32) (de dO : Arr F) : Arr F :=
  select (live len tt) (bsum3 sl (addf de (blank g)) (addf dO (row g))) io

/-- One step of both sweeps. -/
def both (sk sl : Arr F) (len : IVec S16x1 32) (ie io : Arr F) (tt : BitVec 32) (g h : Vec F S16x1x384 .f32) (c : Car F) : Car F :=
  (fE g c.1 c.2.1, fO sk g c.1 c.2.1, bE len ie tt h c.2.2.1 c.2.2.2, bO sl len io tt h c.2.2.1 c.2.2.2)

/-- The first `n` steps of a run of steps, each with its rows. -/
def steps (sk sl : Arr F) (len : IVec S16x1 32) (ie io : Arr F) (tt : ℕ → BitVec 32) (g h : ℕ → Vec F S16x1x384 .f32) (c : Car F) : ℕ → Car F
  | 0 => c
  | n + 1 => both sk sl len ie io (tt n) (g n) (h n) (steps sk sl len ie io tt g h c n)

end Cert.KernelIdeal.Steps

end
-- ==== Proof.Peeled.lean ====
/- The steps in front of the loops, as a run of steps over rows of the emission buffers. -/
module

public import proofs.«01_k».proof.Proof.Steps
public import proofs.«01_k».proof.Proof.Body

@[expose] public section

noncomputable section

namespace Cert.KernelIdeal.Steps

open Cert.KernelIdeal Cert.KernelIdeal.Gen
open Idealize.ShloMosaic Idealize.ShloMosaic.TcCoe Idealize.ShloMosaic.Tactic

variable {F : FTy → Type} [FloatOps F] [Named F]

theorem row_inb (n : ℕ) : ∀ a, (![0, n % 128, 0] : Fin 3 → ℕ) a + S16x1x384.size a ≤ S16x128x384.size a := by
  have h : n % 128 < 128 := Nat.mod_lt _ (by norm_num)
  intro a
  fin_cases a
  · exact le_refl _
  · exact h
  · exact le_refl _

/-- Row `n` of an emission buffer, over the batch. -/
noncomputable def rowAt (m : Memref sig .tc .vmem S16x128x384 .f32) (X : BufTy.Contents (Elt F) m.view.ty) (n : ℕ) : Vec F S16x1x384 .f32 :=
  View.readAt (Elt F) m.view (Rect.unit (s := S16x128x384) ![0, n % 128, 0] S16x1x384.size (row_inb n)).toLoadRect X

section

variable (arg0 : Memref sig .tc .vmem S16x2048x64 .f32) (arg1 : Memref sig .tc .vmem S16x256 .i32) (arg2 arg3 : Memref sig .tc .vmem S16x1 .i32) (arg5 arg6 : Memref sig .tc .vmem S16x128x384 .f32) (arg7 : Memref sig .tc .vmem S16x64x384 .f32)
  (X0 : BufTy.Contents (Elt F) arg0.view.ty) (X1 : BufTy.Contents (Elt F) arg1.view.ty) (X2 : BufTy.Contents (Elt F) arg2.view.ty) (X3 : BufTy.Contents (Elt F) arg3.view.ty)

/-- The forward emission buffer after its first filling. -/
noncomputable abbrev buf5 : BufTy.Contents (Elt F) arg5.view.ty := arg5.view.writes (Elt F) arg5.view.junk (Body.run.sl.H5_16 arg0 arg1 arg7 X0 X1)
/-- The backward emission buffer after its first filling. -/
noncomputable abbrev buf6 : BufTy.Contents (Elt F) arg6.view.ty := arg6.view.writes (Elt F) arg6.view.junk (Body.run.sl.H6_16 arg0 arg1 arg7 X0 X1)

/-- The carried rows after `n` of the steps in front of the loops. -/
noncomputable def mid : ℕ → Car F
  | 0 => ((Body.run.sl.r_9 arg0 arg1 arg5 arg7 X0 X1), (Body.run.sl.r_10 arg0 arg1 arg5 arg7 X0 X1),
      (Body.run.sl.r_11 arg0 arg1 arg2 arg3 arg6 arg7 X0 X1 X2 X3), (Body.run.sl.r_12 arg0 arg1 arg2 arg3 arg6 arg7 X0 X1 X2 X3))
  | 1 => ((Body.run.sl.r_14 arg0 arg1 arg5 arg7 X0 X1), (Body.run.sl.r_13 arg0 arg1 arg5 arg7 X0 X1),
      (Body.run.sl.r_21 arg0 arg1 arg2 arg3 arg6 arg7 X0 X1 X2 X3), (Body.run.sl.r_22 arg0 arg1 arg2 arg3 arg6 arg7 X0 X1 X2 X3))
  | 2 => ((Body.run.sl.r_28 arg0 arg1 arg5 arg7 X0 X1), (Body.run.sl.r_27 arg0 arg1 arg5 arg7 X0 X1),
      (Body.run.sl.r_31 arg0 arg1 arg2 arg3 arg6 arg7 X0 X1 X2 X3), bO (Body.run.sl.r_1 arg1 X1) (Body.run.sl.r_2 arg2 X2) (Body.run.sl.r_4 arg3 X3) 2045#32 (rowAt arg6 (buf6 arg0 arg1 arg6 arg7 X0 X1) 125) (Body.run.sl.r_21 arg0 arg1 arg2 arg3 arg6 arg7 X0 X1 X2 X3) (Body.run.sl.r_22 arg0 arg1 arg2 arg3 arg6 arg7 X0 X1 X2 X3))
  | 3 => ((Body.run.sl.r_33 arg0 arg1 arg5 arg7 X0 X1), (Body.run.sl.r_32 arg0 arg1 arg5 arg7 X0 X1),
      (Body.run.sl.r_39 arg0 arg1 arg2 arg3 arg6 arg7 X0 X1 X2 X3), (Body.run.sl.r_40 arg0 arg1 arg2 arg3 arg6 arg7 X0 X1 X2 X3))
  | 4 => ((Body.run.sl.r_48 arg0 arg1 arg5 arg7 X0 X1), (Body.run.sl.r_47 arg0 arg1 arg5 arg7 X0 X1),
      bE (Body.run.sl.r_2 arg2 X2) (Body.run.sl.r_3 arg3 X3) 2043#32 (rowAt arg6 (buf6 arg0 arg1 arg6 arg7 X0 X1) 123) (Body.run.sl.r_39 arg0 arg1 arg2 arg3 arg6 arg7 X0 X1 X2 X3) (Body.run.sl.r_40 arg0 arg1 arg2 arg3 arg6 arg7 X0 X1 X2 X3), bO (Body.run.sl.r_1 arg1 X1) (Body.run.sl.r_2 arg2 X2) (Body.run.sl.r_4 arg3 X3) 2043#32 (rowAt arg6 (buf6 arg0 arg1 arg6 arg7 X0 X1) 123) (Body.run.sl.r_39 arg0 arg1 arg2 arg3 arg6 arg7 X0 X1 X2 X3) (Body.run.sl.r_40 arg0 arg1 arg2 arg3 arg6 arg7 X0 X1 X2 X3))
  | 5 => ((Body.run.sl.r_52 arg0 arg1 arg5 arg7 X0 X1), (Body.run.sl.r_51 arg0 arg1 arg5 arg7 X0 X1),
      (Body.run.sl.r_57 arg0 arg1 arg2 arg3 arg6 arg7 X0 X1 X2 X3), (Body.run.sl.r_58 arg0 arg1 arg2 arg3 arg6 arg7 X0 X1 X2 X3))
  | 6 => ((Body.run.sl.r_66 arg0 arg1 arg5 arg7 X0 X1), (Body.run.sl.r_65 arg0 arg1 arg5 arg7 X0 X1),
      bE (Body.run.sl.r_2 arg2 X2) (Body.run.sl.r_3 arg3 X3) 2041#32 (rowAt arg6 (buf6 arg0 arg1 arg6 arg7 X0 X1) 121) (Body.run.sl.r_57 arg0 arg1 arg2 arg3 arg6 arg7 X0 X1 X2 X3) (Body.run.sl.r_58 arg0 arg1 arg2 arg3 arg6 arg7 X0 X1 X2 X3), bO (Body.run.sl.r_1 arg1 X1) (Body.run.sl.r_2 arg2 X2) (Body.run.sl.r_4 arg3 X3) 2041#32 (rowAt arg6 (buf6 arg0 arg1 arg6 arg7 X0 X1) 121) (Body.run.sl.r_57 arg0 arg1 arg2 arg3 arg6 arg7 X0 X1 X2 X3) (Body.run.sl.r_58 arg0 arg1 arg2 arg3 arg6 arg7 X0 X1 X2 X3))
  | 7 => ((Body.run.sl.r_71 arg0 arg1 arg5 arg7 X0 X1), (Body.run.sl.r_70 arg0 arg1 arg5 arg7 X0 X1),
      (Body.run.sl.r_75 arg0 arg1 arg2 arg3 arg6 arg7 X0 X1 X2 X3), (Body.run.sl.r_76 arg0 arg1 arg2 arg3 arg6 arg7 X0 X1 X2 X3))
  | 8 => ((Body.run.sl.r_84 arg0 arg1 arg5 arg7 X0 X1), (Body.run.sl.r_83 arg0 arg1 arg5 arg7 X0 X1),
      (Body.run.sl.r_89 arg0 arg1 arg2 arg3 arg6 arg7 X0 X1 X2 X3), (Body.run.sl.r_90 arg0 arg1 arg2 arg3 arg6 arg7 X0 X1 X2 X3))
  | 9 => ((Body.run.sl.r_92 arg0 arg1 arg5 arg7 X0 X1), (Body.run.sl.r_91 arg0 arg1 arg5 arg7 X0 X1),
      (Body.run.sl.r_95 arg0 arg1 arg2 arg3 arg6 arg7 X0 X1 X2 X3), (Body.run.sl.r_96 arg0 arg1 arg2 arg3 arg6 arg7 X0 X1 X2 X3))
  | 10 => ((Body.run.sl.r_102 arg0 arg1 arg5 arg7 X0 X1), (Body.run.sl.r_101 arg0 arg1 arg5 arg7 X0 X1),
      (Body.run.sl.r_108 arg0 arg1 arg2 arg3 arg6 arg7 X0 X1 X2 X3), (Body.run.sl.r_109 arg0 arg1 arg2 arg3 arg6 arg7 X0 X1 X2 X3))
  | 11 => ((Body.run.sl.r_111 arg0 arg1 arg5 arg7 X0 X1), (Body.run.sl.r_110 arg0 arg1 arg5 arg7 X0 X1),
      (Body.run.sl.r_112 arg0 arg1 arg2 arg3 arg6 arg7 X0 X1 X2 X3), (Body.run.sl.r_113 arg0 arg1 arg2 arg3 arg6 arg7 X0 X1 X2 X3))
  | 12 => ((Body.run.sl.r_117 arg0 arg1 arg5 arg7 X0 X1), (Body.run.sl.r_116 arg0 arg1 arg5 arg7 X0 X1),
      (Body.run.sl.r_123 arg0 arg1 arg2 arg3 arg6 arg7 X0 X1 X2 X3), (Body.run.sl.r_124 arg0 arg1 arg2 arg3 arg6 arg7 X0 X1 X2 X3))
  | 13 => ((Body.run.sl.r_126 arg0 arg1 arg5 arg7 X0 X1), (Body.run.sl.r_125 arg0 arg1 arg5 arg7 X0 X1),
      (Body.run.sl.r_127 arg0 arg1 arg2 arg3 arg6 arg7 X0 X1 X2 X3), (Body.run.sl.r_128 arg0 arg1 arg2 arg3 arg6 arg7 X0 X1 X2 X3))
  | 14 => ((Body.run.sl.r_131 arg0 arg1 arg5 arg7 X0 X1), (Body.run.sl.r_130 arg0 arg1 arg5 arg7 X0 X1),
      (Body.run.sl.r_137 arg0 arg1 arg2 arg3 arg6 arg7 X0 X1 X2 X3), (Body.run.sl.r_138 arg0 arg1 arg2 arg3 arg6 arg7 X0 X1 X2 X3))
  | _ => ((Body.run.sl.r_143 arg0 arg1 arg5 arg7 X0 X1), (Body.run.sl.r_141 arg0 arg1 arg5 arg7 X0 X1),
      (Body.run.sl.r_144 arg0 arg1 arg2 arg3 arg6 arg7 X0 X1 X2 X3), (Body.run.sl.r_145 arg0 arg1 arg2 arg3 arg6 arg7 X0 X1 X2 X3))

theorem mid_zero : mid arg0 arg1 arg2 arg3 arg5 arg6 arg7 X0 X1 X2 X3 0 =
    (k0_pay671 Body.run.sl.v0 (rowAt arg5 (buf5 arg0 arg1 arg5 arg7 X0 X1) 0), k0_pay673 Body.run.sl.v0 (k0_pay670 (rowAt arg5 (buf5 arg0 arg1 arg5 arg7 X0 X1) 0)) k0_pay672,
      bE (Body.run.sl.r_2 arg2 X2) (Body.run.sl.r_3 arg3 X3) 2047#32 (rowAt arg6 (buf6 arg0 arg1 arg6 arg7 X0 X1) 127) (Body.run.sl.r_3 arg3 X3) (Body.run.sl.r_4 arg3 X3),
      bO (Body.run.sl.r_1 arg1 X1) (Body.run.sl.r_2 arg2 X2) (Body.run.sl.r_4 arg3 X3) 2047#32 (rowAt arg6 (buf6 arg0 arg1 arg6 arg7 X0 X1) 127) (Body.run.sl.r_3 arg3 X3) (Body.run.sl.r_4 arg3 X3)) := rfl

set_option maxRecDepth 100000 in
set_option maxHeartbeats 2000000 in
theorem mid_succ (n : ℕ) (hn : n < 15) : mid arg0 arg1 arg2 arg3 arg5 arg6 arg7 X0 X1 X2 X3 (n + 1)
    = both (Body.run.sl.r arg1 X1) (Body.run.sl.r_1 arg1 X1) (Body.run.sl.r_2 arg2 X2) (Body.run.sl.r_3 arg3 X3) (Body.run.sl.r_4 arg3 X3)
        (BitVec.ofNat 32 (2046 - n)) (rowAt arg5 (buf5 arg0 arg1 arg5 arg7 X0 X1) (n + 1)) (rowAt arg6 (buf6 arg0 arg1 arg6 arg7 X0 X1) (126 - n))
        (mid arg0 arg1 arg2 arg3 arg5 arg6 arg7 X0 X1 X2 X3 n) := by
  interval_cases n <;> simp only [mid, both, Nat.reduceAdd, Nat.reduceSub, Nat.sub_zero, Nat.zero_add] <;> rfl

theorem peeled_eq : ∀ n : ℕ, n ≤ 15 → mid arg0 arg1 arg2 arg3 arg5 arg6 arg7 X0 X1 X2 X3 n
    = steps (Body.run.sl.r arg1 X1) (Body.run.sl.r_1 arg1 X1) (Body.run.sl.r_2 arg2 X2) (Body.run.sl.r_3 arg3 X3) (Body.run.sl.r_4 arg3 X3)
        (fun n => BitVec.ofNat 32 (2046 - n)) (fun n => rowAt arg5 (buf5 arg0 arg1 arg5 arg7 X0 X1) (n + 1)) (fun n => rowAt arg6 (buf6 arg0 arg1 arg6 arg7 X0 X1) (126 - n))
        (mid arg0 arg1 arg2 arg3 arg5 arg6 arg7 X0 X1 X2 X3 0) n
  | 0, _ => by simp only [steps]
  | n + 1, hn => by
    rw [mid_succ _ _ _ _ _ _ _ _ _ _ _ n (by omega), peeled_eq n (by omega)]
    simp only [steps]

end

end Cert.KernelIdeal.Steps

end
-- ==== Proof.Trips.lean ====
/- What a trip of an inner loop yields. -/
module

public import proofs.«01_k».proof.Proof.Steps

@[expose] public section

noncomputable section

namespace Cert.KernelIdeal.Steps

open Cert.KernelIdeal Cert.KernelIdeal.Gen
open Idealize.ShloMosaic Idealize.ShloMosaic.TcCoe Idealize.ShloMosaic.Tactic

variable {F : FTy → Type} [FloatOps F] [Named F]

/-- The rows of the forward buffer a trip of the full inner loop reads. -/
def gRow3 (arg5 : Memref sig .tc .vmem S16x128x384 .f32) (X : BufTy.Contents (Elt F) arg5.view.ty) (k : Fin k0_t3_loop.trips) (n : ℕ) : Vec F S16x1x384 .f32 :=
  View.readAt (Elt F) arg5.view (Rect.unit (s := S16x128x384) (k0_off35 k (BitVec.ofNat 32 (Fin.ofNat 16 n).val)) S16x1x384.size (k0_off35_inb k (Fin.ofNat 16 n))).toLoadRect X
/-- The rows of the backward buffer a trip of the full inner loop reads. -/
def hRow3 (arg6 : Memref sig .tc .vmem S16x128x384 .f32) (X : BufTy.Contents (Elt F) arg6.view.ty) (k : Fin k0_t3_loop.trips) (n : ℕ) : Vec F S16x1x384 .f32 :=
  View.readAt (Elt F) arg6.view (Rect.unit (s := S16x128x384) (k0_off36 k (BitVec.ofNat 32 (Fin.ofNat 16 n).val)) S16x1x384.size (k0_off36_inb k (Fin.ofNat 16 n))).toLoadRect X
/-- The time the backward sweep stands at in step `n` of trip `k`. -/
def tt3 (v2709 : BitVec 32) (k : ℕ) (n : ℕ) : BitVec 32 :=
  Scalar.subi v2709 (Scalar.addi (Scalar.addi 0#32 (Scalar.muli (Scf.iv 0#32 1#32 k) 16#32)) (BitVec.ofNat 32 n))

set_option maxRecDepth 100000 in
set_option maxHeartbeats 2000000 in
theorem trip3_eq (𝒱 : Variants) (c : Dev nD) (bd : Option 𝒱.V) (arg0 : Memref sig .tc .vmem S16x2048x64 .f32) (harg0 : arg0.IsWhole) (arg1 : Memref sig .tc .vmem S16x256 .i32) (harg1 : arg1.IsWhole) (arg2 : Memref sig .tc .vmem S16x1 .i32) (harg2 : arg2.IsWhole) (arg3 : Memref sig .tc .vmem S16x1 .i32) (harg3 : arg3.IsWhole) (arg4 : Memref sig .tc .vmem S16x128 .f32) (harg4 : arg4.IsWhole) (arg5 : Memref sig .tc .vmem S16x128x384 .f32) (harg5 : arg5.IsWhole) (arg6 : Memref sig .tc .vmem S16x128x384 .f32) (harg6 : arg6.IsWhole) (arg7 : Memref sig .tc .vmem S16x64x384 .f32) (harg7 : arg7.IsWhole)
    (v176 v179 : Arr F) (v181 : IVec S16x1 32) (v188 v195 : Arr F) (v2709 : BitVec 32) (X5 : BufTy.Contents (Elt F) arg5.view.ty) (X6 : BufTy.Contents (Elt F) arg6.view.ty) (k : Fin k0_t3_loop.trips) (acc : Car F) :
    tripR_k0_t3 (F := F) 𝒱 c bd arg0 harg0 arg1 harg1 arg2 harg2 arg3 harg3 arg4 harg4 arg5 harg5 arg6 harg6 arg7 harg7 v176 v179 v181 v188 v195 v2709 X5 X6 k acc
      = steps v176 v179 v181 v188 v195 (tt3 v2709 k) (gRow3 arg5 X5 k) (hRow3 arg6 X6 k) acc 16 := by
  unfold tripR_k0_t3 trip_k0_t3
  rfl

/-- The rows of the forward buffer a trip of the first inner loop reads. -/
def gRow1 (arg5 : Memref sig .tc .vmem S16x128x384 .f32) (X : BufTy.Contents (Elt F) arg5.view.ty) (k : Fin k0_t1_loop.trips) (n : ℕ) : Vec F S16x1x384 .f32 :=
  View.readAt (Elt F) arg5.view (Rect.unit (s := S16x128x384) (k0_off1 k (BitVec.ofNat 32 (Fin.ofNat 16 n).val)) S16x1x384.size (k0_off1_inb k (Fin.ofNat 16 n))).toLoadRect X
/-- The rows of the backward buffer a trip of the first inner loop reads. -/
def hRow1 (arg6 : Memref sig .tc .vmem S16x128x384 .f32) (X : BufTy.Contents (Elt F) arg6.view.ty) (k : Fin k0_t1_loop.trips) (n : ℕ) : Vec F S16x1x384 .f32 :=
  View.readAt (Elt F) arg6.view (Rect.unit (s := S16x128x384) (k0_off2 k (BitVec.ofNat 32 (Fin.ofNat 16 n).val)) S16x1x384.size (k0_off2_inb k (Fin.ofNat 16 n))).toLoadRect X
/-- The time the backward sweep stands at in step `n` of trip `k`. -/
def tt1 (k : ℕ) (n : ℕ) : BitVec 32 :=
  Scalar.subi 2047#32 (Scalar.addi (Scalar.addi 16#32 (Scalar.muli (Scf.iv 0#32 1#32 k) 16#32)) (BitVec.ofNat 32 n))

set_option maxRecDepth 100000 in
set_option maxHeartbeats 2000000 in
theorem trip1_eq (𝒱 : Variants) (c : Dev nD) (bd : Option 𝒱.V) (arg0 : Memref sig .tc .vmem S16x2048x64 .f32) (harg0 : arg0.IsWhole) (arg1 : Memref sig .tc .vmem S16x256 .i32) (harg1 : arg1.IsWhole) (arg2 : Memref sig .tc .vmem S16x1 .i32) (harg2 : arg2.IsWhole) (arg3 : Memref sig .tc .vmem S16x1 .i32) (harg3 : arg3.IsWhole) (arg4 : Memref sig .tc .vmem S16x128 .f32) (harg4 : arg4.IsWhole) (arg5 : Memref sig .tc .vmem S16x128x384 .f32) (harg5 : arg5.IsWhole) (arg6 : Memref sig .tc .vmem S16x128x384 .f32) (harg6 : arg6.IsWhole) (arg7 : Memref sig .tc .vmem S16x64x384 .f32) (harg7 : arg7.IsWhole)
    (v176 v179 : Arr F) (v181 : IVec S16x1 32) (v188 v195 : Arr F) (X5 : BufTy.Contents (Elt F) arg5.view.ty) (X6 : BufTy.Contents (Elt F) arg6.view.ty) (k : Fin k0_t1_loop.trips) (acc : Car F) :
    tripR_k0_t1 (F := F) 𝒱 c bd arg0 harg0 arg1 harg1 arg2 harg2 arg3 harg3 arg4 harg4 arg5 harg5 arg6 harg6 arg7 harg7 v176 v179 v181 v188 v195 0#32 X5 X6 k acc
      = steps v176 v179 v181 v188 v195 (tt1 k) (gRow1 arg5 X5 k) (hRow1 arg6 X6 k) acc 16 := by
  unfold tripR_k0_t1 trip_k0_t1
  rfl

end Cert.KernelIdeal.Steps

end
-- ==== Proof.Reals.lean ====
/- Logarithms of nonnegative numbers in the extended reals: how the kernel's floored sums of exponentials and the
reference's two-term sums act on them. -/
module

public import Idealize.ShloMosaic.PureOps.Ideal

@[expose] public section

noncomputable section

namespace Cert.Ctc

open Idealize.ShloMosaic

/-- The logarithm of a real, minus infinity at zero. -/
def L (a : ℝ) : EReal := Ideal.log (a : EReal)

theorem L_zero : L 0 = ⊥ := by rw [L, Ideal.log_coe, if_pos (le_refl _)]

theorem L_pos {a : ℝ} (h : 0 < a) : L a = ((Real.log a : ℝ) : EReal) := by
  simp [L, not_le.mpr h]

theorem L_one : L 1 = 0 := by rw [L_pos one_pos]; simp

theorem log_one : Ideal.log 1 = 0 := L_one

theorem L_exp (r : ℝ) : L (Real.exp r) = (r : EReal) := by
  rw [L_pos (Real.exp_pos r), Real.log_exp]

/-- The logarithm keeps the order of nonnegative numbers. -/
theorem L_le {a b : ℝ} (ha : 0 ≤ a) (h : a ≤ b) : L a ≤ L b := by
  rcases ha.eq_or_lt with rfl | ha
  · rw [L_zero]; exact bot_le
  · rw [L_pos ha, L_pos (ha.trans_le h)]
    exact EReal.coe_le_coe_iff.mpr (Real.log_le_log ha h)

theorem L_max {a b : ℝ} (ha : 0 ≤ a) (hb : 0 ≤ b) : max (L a) (L b) = L (max a b) := by
  rcases le_total a b with h | h
  · rw [max_eq_right h, max_eq_right (L_le ha h)]
  · rw [max_eq_left h, max_eq_left (L_le hb h)]

/-- A real added to a logarithm multiplies the number. -/
theorem L_add_coe {a : ℝ} (ha : 0 ≤ a) (r : ℝ) : L a + (r : EReal) = L (a * Real.exp r) := by
  rcases ha.eq_or_lt with rfl | ha
  · rw [zero_mul, L_zero, EReal.bot_add]
  · rw [L_pos ha, L_pos (mul_pos ha (Real.exp_pos r)), Real.log_mul ha.ne' (Real.exp_pos r).ne', Real.log_exp,
      EReal.coe_add]

theorem L_add {a b : ℝ} (ha : 0 ≤ a) (hb : 0 ≤ b) : L a + L b = L (a * b) := by
  rcases hb.eq_or_lt with rfl | hb
  · rw [mul_zero, L_zero, EReal.add_bot]
  · rw [L_pos hb, L_add_coe ha, Real.exp_log hb]

/-- The exponential of a difference of logarithms is the quotient. -/
theorem exp_sub {a μ : ℝ} (ha : 0 ≤ a) (hμ : 0 < μ) : Ideal.exp (L a - L μ) = ((a / μ : ℝ) : EReal) := by
  rcases ha.eq_or_lt with rfl | ha
  · rw [L_zero, L_pos hμ, zero_div, EReal.bot_sub]; simp
  · rw [L_pos ha, L_pos hμ, ← EReal.coe_sub, Ideal.exp_coe, Real.exp_sub, Real.exp_log ha, Real.exp_log hμ]

/-- The scaled sum's logarithm, the scale put back. -/
theorem log_div {z μ : ℝ} (hz : 0 ≤ z) (hμ : 0 < μ) : L μ + Ideal.log ((z / μ : ℝ) : EReal) = L z := by
  rw [show Ideal.log ((z / μ : ℝ) : EReal) = L (z / μ) from rfl, L_add hμ.le (div_nonneg hz hμ.le),
    mul_div_cancel₀ _ hμ.ne']

/-- The floored two-term sum, with any scale at least as large as the terms. -/
theorem lse2 {a b μ : ℝ} (ha : 0 ≤ a) (hb : 0 ≤ b) (h : a ≤ μ) (h' : b ≤ μ) :
    L μ + Ideal.log (max (Ideal.exp (L a - L μ) + Ideal.exp (L b - L μ)) ⊥) = L (a + b) := by
  rcases (ha.trans h).eq_or_lt with rfl | hμ
  · obtain rfl := le_antisymm h ha
    obtain rfl := le_antisymm h' hb
    rw [add_zero, L_zero, EReal.bot_add]
  · rw [max_eq_left bot_le, exp_sub ha hμ, exp_sub hb hμ, ← EReal.coe_add, ← add_div]
    exact log_div (add_nonneg ha hb) hμ

/-- The floored three-term sum, the third term weighted. -/
theorem lse3 {a b d μ w : ℝ} (ha : 0 ≤ a) (hb : 0 ≤ b) (hd : 0 ≤ d) (hw : 0 ≤ w) (h : a ≤ μ) (h' : b ≤ μ) (h'' : d ≤ μ) :
    L μ + Ideal.log (max (Ideal.exp (L a - L μ) + Ideal.exp (L b - L μ) + Ideal.exp (L d - L μ) * (w : EReal)) ⊥)
      = L (a + b + w * d) := by
  rcases (ha.trans h).eq_or_lt with rfl | hμ
  · obtain rfl := le_antisymm h ha
    obtain rfl := le_antisymm h' hb
    obtain rfl := le_antisymm h'' hd
    rw [mul_zero, add_zero, add_zero, L_zero, EReal.bot_add]
  · rw [max_eq_left bot_le, exp_sub ha hμ, exp_sub hb hμ, exp_sub hd hμ, ← EReal.coe_mul, ← EReal.coe_add,
      ← EReal.coe_add, show a / μ + b / μ + d / μ * w = (a + b + w * d) / μ by ring]
    exact log_div (add_nonneg (add_nonneg ha hb) (mul_nonneg hw hd)) hμ

/-- The stable two-term sum of logarithms. -/
theorem logaddexp {a b : ℝ} (ha : 0 ≤ a) (hb : 0 ≤ b) :
    max (L a) (L b) + Ideal.log (1 + Ideal.exp (-(max (L a - L b) (-(L a - L b))))) = L (a + b) := by
  rcases ha.eq_or_lt with rfl | ha <;> rcases hb.eq_or_lt with rfl | hb
  · simp [L_zero]
  · rw [L_zero, L_pos hb, EReal.bot_sub, zero_add, L_pos hb]; simp [log_one]
  · rw [L_zero, L_pos ha, EReal.coe_sub_bot, add_zero, L_pos ha]; simp [log_one]
  · rw [L_max ha.le hb.le]
    have hM : 0 < max a b := ha.trans_le (le_max_left a b)
    rw [L_pos ha, L_pos hb, ← EReal.coe_sub, ← EReal.coe_neg, ← EReal.coe_strictMono.monotone.map_max, ← EReal.coe_neg, Ideal.exp_coe,
      ← EReal.coe_one, ← EReal.coe_add]
    rw [show Real.exp (-max (Real.log a - Real.log b) (-(Real.log a - Real.log b))) = min a b / max a b by
      rcases le_total a b with h | h
      · rw [min_eq_left h, max_eq_right h, max_eq_right (by have := Real.log_le_log ha h; linarith), neg_neg,
          Real.exp_sub, Real.exp_log ha, Real.exp_log hb]
      · rw [min_eq_right h, max_eq_left h, max_eq_left (by have := Real.log_le_log hb h; linarith), neg_sub,
          Real.exp_sub, Real.exp_log ha, Real.exp_log hb]]
    rw [show (1 + min a b / max a b : ℝ) = (a + b) / max a b by
      rw [eq_div_iff hM.ne', add_mul, div_mul_cancel₀ _ hM.ne', one_mul, max_add_min]]
    exact log_div (add_pos ha hb).le hM

end Cert.Ctc

end
-- ==== Proof.Sweep.lean ====
/- The two sweeps over nonnegative numbers: the backward step is the adjoint of the forward step, so that their
pairing in the middle is what the forward sweep alone gives at the end. -/
module

public import Mathlib.Algebra.BigOperators.Ring.Finset
public import Mathlib.Data.Real.Basic
public import Mathlib.Tactic.Ring
public import Mathlib.Tactic.Linarith

@[expose] public section

noncomputable section

namespace Cert.Ctc

/-- The lanes moved one to the right, zero entering. -/
def right (f : ℕ → ℝ) : ℕ → ℝ
  | 0 => 0
  | u + 1 => f u

/-- The lanes moved one to the left, zero entering at the last of the 384. -/
def left (f : ℕ → ℝ) (u : ℕ) : ℝ := if u < 383 then f (u + 1) else 0

/-- The even states' and the odd states' numbers. -/
abbrev Pair : Type := (ℕ → ℝ) × (ℕ → ℝ)

/-- One forward step: `q` the blank's probability, `p` the labels', `sk` where a blank may be skipped. -/
def fwd (sk : ℕ → ℝ) (q : ℝ) (p : ℕ → ℝ) (x : Pair) : Pair :=
  (fun u => (x.1 u + right x.2 u) * q, fun u => (x.2 u + x.1 u + sk u * right x.2 u) * p u)

/-- One backward step. -/
def bwd (sk : ℕ → ℝ) (q : ℝ) (p : ℕ → ℝ) (y : Pair) : Pair :=
  (fun u => y.1 u * q + y.2 u * p u,
    fun u => y.2 u * p u + left (fun v => y.1 v * q) u + left sk u * left (fun v => y.2 v * p v) u)

/-- The pairing of the two sweeps. -/
def pair (x y : Pair) : ℝ := ∑ u ∈ Finset.range 384, (x.1 u * y.1 u + x.2 u * y.2 u)

theorem sum_right (f w : ℕ → ℝ) :
    ∑ u ∈ Finset.range 384, right f u * w u = ∑ u ∈ Finset.range 384, f u * left w u := by
  rw [Finset.sum_range_succ' _ 383, Finset.sum_range_succ _ 383]
  simp only [right, zero_mul, add_zero]
  rw [show left w 383 = 0 from if_neg (lt_irrefl 383), mul_zero, add_zero]
  exact Finset.sum_congr rfl fun u hu => by rw [left, if_pos (Finset.mem_range.mp hu)]

theorem left_mul (f g : ℕ → ℝ) (u : ℕ) : left f u * left g u = left (fun v => f v * g v) u := by
  unfold left; split_ifs <;> ring

/-- The backward step is the adjoint of the forward step. -/
theorem adjoint (sk : ℕ → ℝ) (q : ℝ) (p : ℕ → ℝ) (x y : Pair) :
    pair (fwd sk q p x) y = pair x (bwd sk q p y) := by
  have h1 := sum_right x.2 fun u => y.1 u * q
  have h2 := sum_right x.2 fun u => sk u * (y.2 u * p u)
  unfold pair fwd bwd
  dsimp only
  simp only [left_mul]
  have e1 : ∀ u, (x.1 u + right x.2 u) * q * y.1 u + (x.2 u + x.1 u + sk u * right x.2 u) * p u * y.2 u
      = (x.1 u * (y.1 u * q + y.2 u * p u) + x.2 u * (y.2 u * p u)) + right x.2 u * (y.1 u * q) + right x.2 u * (sk u * (y.2 u * p u)) :=
    fun u => by ring
  have e2 : ∀ u, x.1 u * (y.1 u * q + y.2 u * p u)
        + x.2 u * (y.2 u * p u + left (fun v => y.1 v * q) u + left (fun v => sk v * (y.2 v * p v)) u)
      = (x.1 u * (y.1 u * q + y.2 u * p u) + x.2 u * (y.2 u * p u)) + x.2 u * left (fun v => y.1 v * q) u
        + x.2 u * left (fun v => sk v * (y.2 v * p v)) u := fun u => by ring
  simp only [e1, e2, Finset.sum_add_distrib] at *
  rw [h1, h2]

variable (sk : ℕ → ℝ) (q : ℕ → ℝ) (p : ℕ → ℕ → ℝ)

/-- The forward sweep. -/
def alpha (a : Pair) : ℕ → Pair
  | 0 => a
  | t + 1 => fwd sk (q (t + 1)) (p (t + 1)) (alpha a t)

/-- The forward sweep, held once the sequence is over. -/
def held (len : ℕ) (a : Pair) : ℕ → Pair
  | 0 => a
  | t + 1 => if t + 1 < len then fwd sk (q (t + 1)) (p (t + 1)) (held len a t) else held len a t

/-- The backward sweep after `n` steps, the first being time 2047's. -/
def beta (len : ℕ) (d : Pair) : ℕ → Pair
  | 0 => d
  | n + 1 => if 2047 - n < len then bwd sk (q (2047 - n)) (p (2047 - n)) (beta len d n) else d

theorem held_eq {len : ℕ} (a : Pair) : ∀ t, t < len → held sk q p len a t = alpha sk q p a t
  | 0, _ => rfl
  | t + 1, h => by rw [held, alpha, if_pos h, held_eq a t (Nat.lt_of_succ_lt h)]

theorem beta_init {len : ℕ} (d : Pair) : ∀ n, len ≤ 2048 - n → n ≤ 2048 → beta sk q p len d n = d
  | 0, _, _ => rfl
  | n + 1, h, h' => by rw [beta, if_neg (by omega)]

/-- The pairing does not depend on where the two sweeps meet. -/
theorem meet {len : ℕ} (a d : Pair) : ∀ n, n ≤ 2047 →
    pair (held sk q p len a (2047 - n)) (beta sk q p len d n) = pair (held sk q p len a 2047) d
  | 0, _ => rfl
  | n + 1, h => by
    rw [← meet a d n (by omega), beta]
    obtain ⟨t, ht⟩ : ∃ t, 2047 - n = t + 1 := ⟨2047 - n - 1, by omega⟩
    rw [show 2047 - (n + 1) = t by omega, ht, held]
    split_ifs with hl
    · rw [adjoint]
    · rw [beta_init sk q p d n (by omega) (by omega)]

/-- The two sweeps' pairing in the middle is the forward sweep's pairing at the end. -/
theorem meet_middle {len : ℕ} (hl : 1024 ≤ len) (a d : Pair) :
    pair (alpha sk q p a 1023) (beta sk q p len d 1024) = pair (held sk q p len a 2047) d := by
  rw [← meet sk q p a d 1024 (by omega), held_eq sk q p a _ (by omega)]

/-- The sweep over the extended labels, all states in one row. -/
def ext (len : ℕ) (al : ℕ → ℝ) (pr : ℕ → ℕ → ℝ) (a : ℕ → ℝ) : ℕ → ℕ → ℝ
  | 0 => a
  | t + 1 => fun s =>
    if t + 1 < len then (ext len al pr a t s + right (ext len al pr a t) s + al s * right (right (ext len al pr a t)) s) * pr (t + 1) s
    else ext len al pr a t s

theorem ext_succ (len : ℕ) (al : ℕ → ℝ) (pr : ℕ → ℕ → ℝ) (a : ℕ → ℝ) (t s : ℕ) : ext len al pr a (t + 1) s =
    if t + 1 < len then (ext len al pr a t s + right (ext len al pr a t) s + al s * right (right (ext len al pr a t)) s) * pr (t + 1) s
    else ext len al pr a t s := by
  rw [ext]

/-- Its even and odd states are the forward sweep's two rows. -/
theorem ext_eq {len : ℕ} {al : ℕ → ℝ} {pr : ℕ → ℕ → ℝ} {a : ℕ → ℝ} {x : Pair}
    (hE : ∀ u ≤ 256, a (2 * u) = x.1 u) (hO : ∀ u < 256, a (2 * u + 1) = x.2 u)
    (hq : ∀ t, ∀ u ≤ 256, pr t (2 * u) = q t) (hp : ∀ t, ∀ u < 256, pr t (2 * u + 1) = p t u)
    (ha : ∀ u ≤ 256, al (2 * u) = 0) (ha' : ∀ u, 0 < u → u < 256 → al (2 * u + 1) = sk u) :
    ∀ t, (∀ u ≤ 256, ext len al pr a t (2 * u) = (held sk q p len x t).1 u)
      ∧ (∀ u < 256, ext len al pr a t (2 * u + 1) = (held sk q p len x t).2 u)
  | 0 => ⟨hE, hO⟩
  | t + 1 => by
    obtain ⟨iE, iO⟩ := ext_eq (len := len) hE hO hq hp ha ha' t
    constructor
    · intro u hu
      rw [ext_succ, held]
      split_ifs with hl
      · rw [fwd, hq _ u hu, ha u hu, zero_mul, add_zero, iE u hu]
        dsimp only
        congr 2
        rcases u with _ | u
        · rfl
        · exact iO u (by omega)
      · exact iE u hu
    · intro u hu
      rw [ext_succ, held]
      split_ifs with hl
      · rw [fwd, hp _ u hu, iO u hu]
        dsimp only
        rw [show right (ext len al pr a t) (2 * u + 1) = (held sk q p len x t).1 u from iE u (by omega)]
        congr 2
        rcases u with _ | u
        · simp [right]
        · rw [ha' (u + 1) (by omega) hu]
          congr 1
          exact iO u (by omega)
      · exact iO u hu

/-- The values stay nonnegative. -/
theorem right_nonneg {f : ℕ → ℝ} (h : ∀ u, 0 ≤ f u) : ∀ u, 0 ≤ right f u
  | 0 => le_refl _
  | u + 1 => h u

theorem left_nonneg {f : ℕ → ℝ} (h : ∀ u, 0 ≤ f u) (u : ℕ) : 0 ≤ left f u := by
  unfold left; split_ifs; exacts [h _, le_refl _]

/-- Nonnegative on every lane. -/
def Nonneg (x : Pair) : Prop := (∀ u, 0 ≤ x.1 u) ∧ ∀ u, 0 ≤ x.2 u

theorem fwd_nonneg {sk : ℕ → ℝ} {q : ℝ} {p : ℕ → ℝ} {x : Pair} (hs : ∀ u, 0 ≤ sk u) (hq : 0 ≤ q) (hp : ∀ u, 0 ≤ p u)
    (hx : Nonneg x) : Nonneg (fwd sk q p x) :=
  ⟨fun u => mul_nonneg (add_nonneg (hx.1 u) (right_nonneg hx.2 u)) hq,
    fun u => mul_nonneg (add_nonneg (add_nonneg (hx.2 u) (hx.1 u)) (mul_nonneg (hs u) (right_nonneg hx.2 u))) (hp u)⟩

theorem bwd_nonneg {sk : ℕ → ℝ} {q : ℝ} {p : ℕ → ℝ} {y : Pair} (hs : ∀ u, 0 ≤ sk u) (hq : 0 ≤ q) (hp : ∀ u, 0 ≤ p u)
    (hy : Nonneg y) : Nonneg (bwd sk q p y) :=
  ⟨fun u => add_nonneg (mul_nonneg (hy.1 u) hq) (mul_nonneg (hy.2 u) (hp u)),
    fun u => add_nonneg (add_nonneg (mul_nonneg (hy.2 u) (hp u)) (left_nonneg (fun v => mul_nonneg (hy.1 v) hq) u))
      (mul_nonneg (left_nonneg hs u) (left_nonneg (fun v => mul_nonneg (hy.2 v) (hp v)) u))⟩

theorem ext_nonneg {len : ℕ} {al : ℕ → ℝ} {pr : ℕ → ℕ → ℝ} {a : ℕ → ℝ} (hal : ∀ s, 0 ≤ al s) (hpr : ∀ t s, 0 ≤ pr t s)
    (ha : ∀ s, 0 ≤ a s) : ∀ t s, 0 ≤ ext len al pr a t s
  | 0, s => ha s
  | t + 1, s => by
    have h := ext_nonneg hal hpr ha (len := len) t
    rw [ext_succ]
    split_ifs
    · exact mul_nonneg (add_nonneg (add_nonneg (h s) (right_nonneg h s)) (mul_nonneg (hal s) (right_nonneg (right_nonneg h) s))) (hpr _ s)
    · exact h s

end Cert.Ctc

end
-- ==== Proof.Lanes.lean ====
/- One time step of the two sweeps over the extended reals: arrays of logarithms of nonnegative numbers go to arrays
of logarithms, by the two sweeps' steps on the numbers. -/
module

public import proofs.«01_k».proof.Proof.Steps
public import proofs.«01_k».proof.Proof.Reals
public import proofs.«01_k».proof.Proof.Sweep
public import Idealize.ShloMosaic.Lib.Pointwise

@[expose] public section

noncomputable section

namespace Cert.KernelIdeal.Lanes

open Cert.KernelIdeal Cert.KernelIdeal.Gen Cert.KernelIdeal.Steps Cert.Ctc
open Idealize.ShloMosaic Idealize.ShloMosaic.TcCoe Idealize.ShloMosaic.Tactic

/-- The named mask is minus infinity. -/
theorem mask_eq : (NEGc : Ideal .f32) = (⊥ : EReal) := rfl
theorem floor_eq : (TINYc : Ideal .f32) = (⊥ : EReal) := rfl

theorem row_apply (g : Vec Ideal S16x1x384 .f32) (b : Fin 16) (l : Fin 384) : row g (ix2 b l) = g (ix3 b 0 l) := by
  pointwise [row]

theorem blank_apply (g : Vec Ideal S16x1x384 .f32) (b : Fin 16) (l : Fin 384) : blank g (ix2 b l) = g (ix3 b 0 256) := by
  pointwise [blank, row]

theorem shr_apply (x : Arr Ideal) (b : Fin 16) (l : Fin 384) :
    shr x (ix2 b l) = if h : l.val = 0 then (⊥ : EReal) else x (ix2 b ⟨l.val - 1, by omega⟩) := by
  pointwise [shr]
  simp only [Nat.lt_one_iff]; rfl

theorem shl_apply (x : Arr Ideal) (b : Fin 16) (l : Fin 384) :
    shl x (ix2 b l) = if h : l.val < 383 then x (ix2 b ⟨l.val + 1, by omega⟩) else (⊥ : EReal) := by
  pointwise [shl]
  simp only [Nat.add_comm 1]; rfl

theorem live_apply (len : IVec S16x1 32) (tt : BitVec 32) (b : Fin 16) (l : Fin 384) :
    live len tt (ix2 b l) = IntOp.cmpi .slt tt (len (ix2 b 0)) := by
  pointwise [live]

/-- The array holds the logarithms of the numbers. -/
def Rep (A : Arr Ideal) (x : Fin 16 → ℕ → ℝ) : Prop := ∀ (b : Fin 16) (l : Fin 384), A (ix2 b l) = L (x b l)

/-- The emission rows hold the logarithms of a step's probabilities: the labels' and the blank's. -/
def Emits (g : Vec Ideal S16x1x384 .f32) (p : Fin 16 → ℕ → ℝ) (q : Fin 16 → ℝ) : Prop :=
  (∀ (b : Fin 16) (l : Fin 384), g (ix3 b 0 l) = ((Real.log (p b l) : ℝ) : EReal)) ∧ (∀ b l, 0 < p b l) ∧ ∀ b, p b 256 = q b

theorem Emits.row {g : Vec Ideal S16x1x384 .f32} {p : Fin 16 → ℕ → ℝ} {q : Fin 16 → ℝ} (h : Emits g p q) (b : Fin 16) (l : Fin 384) :
    Steps.row g (ix2 b l) = ((Real.log (p b l) : ℝ) : EReal) := by rw [row_apply, h.1]

theorem Emits.blank {g : Vec Ideal S16x1x384 .f32} {p : Fin 16 → ℕ → ℝ} {q : Fin 16 → ℝ} (h : Emits g p q) (b : Fin 16) (l : Fin 384) :
    Steps.blank g (ix2 b l) = ((Real.log (q b) : ℝ) : EReal) := by
  rw [blank_apply, h.1, ← h.2.2]; rfl

theorem Emits.q_pos {g : Vec Ideal S16x1x384 .f32} {p : Fin 16 → ℕ → ℝ} {q : Fin 16 → ℝ} (h : Emits g p q) (b : Fin 16) : 0 < q b := by
  rw [← h.2.2]; exact h.2.1 b 256

/-- The weights of the third terms, on every lane a number. -/
def Weighs (A : Arr Ideal) (w : Fin 16 → ℕ → ℝ) : Prop := ∀ (b : Fin 16) (l : Fin 384), A (ix2 b l) = ((w b l : ℝ) : EReal)

theorem L_mul_pos {a r : ℝ} (ha : 0 ≤ a) (hr : 0 < r) : L a + ((Real.log r : ℝ) : EReal) = L (a * r) := by
  rw [L_add_coe ha, Real.exp_log hr]

theorem Rep.shr {A : Arr Ideal} {x : Fin 16 → ℕ → ℝ} (h : Rep A x) : Rep (shr A) fun b => right (x b) := by
  intro b l
  rw [shr_apply]
  obtain ⟨l, hl⟩ := l
  rcases l with _ | l
  · rw [dif_pos rfl]; exact L_zero.symm
  · rw [dif_neg (Nat.succ_ne_zero l)]; exact h b _

theorem Rep.shl {A : Arr Ideal} {x : Fin 16 → ℕ → ℝ} (h : Rep A x) : Rep (shl A) fun b => left (x b) := by
  intro b l
  rw [shl_apply]
  show _ = L (if l.val < 383 then x b (l.val + 1) else 0)
  by_cases hl : l.val < 383
  · rw [dif_pos hl, if_pos hl]; exact h b _
  · rw [dif_neg hl, if_neg hl, L_zero]

theorem Rep.max {A B : Arr Ideal} {x y : Fin 16 → ℕ → ℝ} (hA : Rep A x) (hB : Rep B y) (hx : ∀ b u, 0 ≤ x b u) (hy : ∀ b u, 0 ≤ y b u) :
    Rep (maximumf A B) fun b u => Max.max (x b u) (y b u) := by
  intro b l
  show Max.max (A (ix2 b l)) (B (ix2 b l)) = _
  rw [hA, hB, L_max (hx b l) (hy b l)]

theorem Rep.add {A B : Arr Ideal} {x : Fin 16 → ℕ → ℝ} {r : Fin 16 → ℕ → ℝ} (hA : Rep A x)
    (hB : ∀ (b : Fin 16) (l : Fin 384), B (ix2 b l) = ((Real.log (r b l) : ℝ) : EReal)) (hx : ∀ b u, 0 ≤ x b u) (hr : ∀ b u, 0 < r b u) :
    Rep (addf A B) fun b u => x b u * r b u := by
  intro b l
  show A (ix2 b l) + B (ix2 b l) = _
  rw [hA, hB, L_mul_pos (hx b l) (hr b l)]

theorem flog_apply (m z : Arr Ideal) (b : Fin 16) (l : Fin 384) :
    flog m z (ix2 b l) = (m (ix2 b l) + Ideal.log (Max.max (z (ix2 b l)) ⊥) : EReal) := rfl

/-- The floored sum of two arrays' exponentials. -/
theorem Rep.sum2 {A B M : Arr Ideal} {x y μ : Fin 16 → ℕ → ℝ} (hA : Rep A x) (hB : Rep B y) (hM : Rep M μ)
    (hx : ∀ b u, 0 ≤ x b u) (hy : ∀ b u, 0 ≤ y b u) (h1 : ∀ b u, x b u ≤ μ b u) (h2 : ∀ b u, y b u ≤ μ b u) :
    Rep (flog M (addf (exp (subf A M)) (exp (subf B M)))) fun b u => x b u + y b u := by
  intro b l
  rw [flog_apply]
  show M (ix2 b l) + Ideal.log (Max.max (Ideal.exp (A (ix2 b l) - M (ix2 b l)) + Ideal.exp (B (ix2 b l) - M (ix2 b l))) ⊥) = _
  rw [hA, hB, hM, lse2 (hx b l) (hy b l) (h1 b l) (h2 b l)]

/-- The floored sum of three arrays' exponentials, the third weighted. -/
theorem Rep.sum3 {A B D M W : Arr Ideal} {x y z w μ : Fin 16 → ℕ → ℝ} (hA : Rep A x) (hB : Rep B y) (hD : Rep D z) (hM : Rep M μ) (hW : Weighs W w)
    (hx : ∀ b u, 0 ≤ x b u) (hy : ∀ b u, 0 ≤ y b u) (hz : ∀ b u, 0 ≤ z b u) (hw : ∀ b u, 0 ≤ w b u)
    (h1 : ∀ b u, x b u ≤ μ b u) (h2 : ∀ b u, y b u ≤ μ b u) (h3 : ∀ b u, z b u ≤ μ b u) :
    Rep (flog M (addf (addf (exp (subf A M)) (exp (subf B M))) (mulf (exp (subf D M)) W))) fun b u => x b u + y b u + w b u * z b u := by
  intro b l
  rw [flog_apply]
  show M (ix2 b l) + Ideal.log (Max.max (Ideal.exp (A (ix2 b l) - M (ix2 b l)) + Ideal.exp (B (ix2 b l) - M (ix2 b l)) + Ideal.exp (D (ix2 b l) - M (ix2 b l)) * W (ix2 b l)) ⊥) = _
  rw [hA, hB, hD, hM, hW, lse3 (hx b l) (hy b l) (hz b l) (hw b l) (h1 b l) (h2 b l) (h3 b l)]

/-- The carried pair of arrays holds the pair of rows. -/
def RepP (E O : Arr Ideal) (x : Fin 16 → Pair) : Prop := Rep E (fun b => (x b).1) ∧ Rep O fun b => (x b).2

section Forward
variable {sk : Arr Ideal} {s : Fin 16 → ℕ → ℝ} {g : Vec Ideal S16x1x384 .f32} {p : Fin 16 → ℕ → ℝ} {q : Fin 16 → ℝ}

/-- The forward step. -/
theorem fwd_rep {E O : Arr Ideal} {x : Fin 16 → Pair} (hs : Weighs sk s) (hs0 : ∀ b u, 0 ≤ s b u) (hg : Emits g p q)
    (h : RepP E O x) (hx : ∀ b, Nonneg (x b)) : RepP (fE g E O) (fO sk g E O) fun b => fwd (s b) (q b) (p b) (x b) := by
  have nE : ∀ b u, 0 ≤ (x b).1 u := fun b => (hx b).1
  have nO : ∀ b u, 0 ≤ (x b).2 u := fun b => (hx b).2
  have nR : ∀ b u, 0 ≤ right (x b).2 u := fun b => right_nonneg (hx b).2
  have nM : ∀ b u, 0 ≤ Max.max ((x b).2 u) ((x b).1 u) := fun b u => (nO b u).trans (le_max_left _ _)
  have hM : Rep (fmx E O) _ := (h.2.max h.1 nO nE).max h.2.shr nM nR
  refine ⟨?_, ?_⟩
  · exact (h.1.sum2 h.2.shr hM nE nR (fun b u => (le_max_right _ _).trans (le_max_left _ _)) (fun b u => le_max_right _ _)).add
      (r := fun b _ => q b) hg.blank (fun b u => add_nonneg (nE b u) (nR b u)) fun b _ => hg.q_pos b
  · exact (h.2.sum3 h.1 h.2.shr hM hs nO nE nR hs0 (fun b u => (le_max_left _ _).trans (le_max_left _ _))
      (fun b u => (le_max_right _ _).trans (le_max_left _ _)) (fun b u => le_max_right _ _)).add
      hg.row (fun b u => add_nonneg (add_nonneg (nO b u) (nE b u)) (mul_nonneg (hs0 b u) (nR b u))) hg.2.1

variable {sl : Arr Ideal} {len : IVec S16x1 32} {ie io : Arr Ideal} {tt : BitVec 32} {d : Fin 16 → Pair}

/-- The backward step. -/
theorem bwd_rep {E O : Arr Ideal} {y : Fin 16 → Pair} (hs : Weighs sl fun b => left (s b)) (hs0 : ∀ b u, 0 ≤ s b u) (hg : Emits g p q)
    (hi : RepP ie io d) (h : RepP E O y) (hy : ∀ b, Nonneg (y b)) :
    RepP (bE len ie tt g E O) (bO sl len io tt g E O)
      fun b => if IntOp.cmpi .slt tt (len (ix2 b 0)) = 1#1 then bwd (s b) (q b) (p b) (y b) else d b := by
  have nE : ∀ b u, 0 ≤ (y b).1 u * q b := fun b u => mul_nonneg ((hy b).1 u) (hg.q_pos b).le
  have nO : ∀ b u, 0 ≤ (y b).2 u * p b u := fun b u => mul_nonneg ((hy b).2 u) (hg.2.1 b u).le
  have rE := h.1.add (r := fun b _ => q b) hg.blank (fun b => (hy b).1) fun b _ => hg.q_pos b
  have rO := h.2.add hg.row (fun b => (hy b).2) hg.2.1
  have nl : ∀ b u, 0 ≤ left (fun v => (y b).1 v * q b) u := fun b u => left_nonneg (nE b) u
  have nl' : ∀ b u, 0 ≤ left (fun v => (y b).2 v * p b v) u := fun b u => left_nonneg (nO b) u
  have hM : Rep (bmx (addf E (Steps.blank g)) (addf O (Steps.row g))) _ :=
    (rO.max rE.shl nO nl).max rO.shl (fun b u => (nO b u).trans (le_max_left _ _)) nl'
  have r2 : Rep (bsum2 (addf E (Steps.blank g)) (addf O (Steps.row g))) _ :=
    rE.sum2 rO (rE.max rO nE nO) nE nO (fun b u => le_max_left _ _) fun b u => le_max_right _ _
  have r3 : Rep (bsum3 sl (addf E (Steps.blank g)) (addf O (Steps.row g))) _ :=
    rO.sum3 rE.shl rO.shl hM hs nO nl nl' (fun b u => left_nonneg (hs0 b) u) (fun b u => (le_max_left _ _).trans (le_max_left _ _))
      (fun b u => (le_max_right _ _).trans (le_max_left _ _)) fun b u => le_max_right _ _
  refine ⟨fun b l => ?_, fun b l => ?_⟩
  · show (if live len tt (ix2 b l) = 1#1 then bsum2 (addf E (Steps.blank g)) (addf O (Steps.row g)) (ix2 b l) else ie (ix2 b l)) = _
    rw [live_apply]
    dsimp only
    split_ifs
    · exact r2 b l
    · exact hi.1 b l
  · show (if live len tt (ix2 b l) = 1#1 then bsum3 sl (addf E (Steps.blank g)) (addf O (Steps.row g)) (ix2 b l) else io (ix2 b l)) = _
    rw [live_apply]
    dsimp only
    split_ifs
    · exact r3 b l
    · exact hi.2 b l

end Forward

end Cert.KernelIdeal.Lanes

end
-- ==== Proof.Model.lean ====
/- The loss of one batch as real numbers: the emission probabilities, the label codes, and the total probability that
both programs compute the negative logarithm of. -/
module

public import proofs.«01_k».proof.Proof.Reals
public import proofs.«01_k».proof.Proof.Sweep
public import Idealize.ShloMosaic.PureOps.Ideal.Laws
public import Mathlib.Analysis.SpecialFunctions.Log.Basic

@[expose] public section

noncomputable section

namespace Cert.Ctc

open Idealize.ShloMosaic

/-- The arguments as numbers: the logits, the targets, the two lengths. -/
structure Data where
  a : Fin 16 → ℕ → Fin 64 → ℝ
  tg : Fin 16 → ℕ → Fin 64
  len : Fin 16 → ℕ
  tl : Fin 16 → ℕ

/-- The ranges of the integer arguments. -/
structure Data.Ok (D : Data) : Prop where
  tg_ge : ∀ b u, u < 256 → 2 ≤ (D.tg b u).val
  len_ge : ∀ b, 1024 ≤ D.len b
  len_le : ∀ b, D.len b ≤ 2048
  tl_ge : ∀ b, 128 ≤ D.tl b
  tl_le : ∀ b, D.tl b ≤ 256

namespace Data

variable (D : Data)

/-- The logarithm of a frame's normalizing sum. -/
def lse (b : Fin 16) (t : ℕ) : ℝ := Real.log (∑ v, Real.exp (D.a b t v))

/-- The log-probability of a label. -/
def lp (b : Fin 16) (t : ℕ) (v : Fin 64) : ℝ := D.a b t v - D.lse b t

/-- The label of a lane: the targets, then the blank, then no label. -/
def code (b : Fin 16) (l : ℕ) : ℤ := if l < 256 then ((D.tg b l).val : ℤ) else if l = 256 then 0 else -1

/-- The logit of a lane's label, zero at no label. -/
def score (b : Fin 16) (t l : ℕ) : ℝ := if l < 256 then D.a b t (D.tg b l) else if l = 256 then D.a b t 0 else 0

/-- The probability of a lane's label. -/
def p (b : Fin 16) (t l : ℕ) : ℝ := Real.exp (D.score b t l - D.lse b t)

/-- The probability of the blank. -/
def q (b : Fin 16) (t : ℕ) : ℝ := D.p b t 256

/-- Where the blank may be skipped. -/
def sk (b : Fin 16) (l : ℕ) : ℝ := if l = 0 then 1 else if D.code b l = D.code b (l - 1) then 0 else 1

/-- What the forward sweep starts from. -/
def start (b : Fin 16) : Pair := (fun u => if u = 0 then D.q b 0 else 0, fun u => if u = 0 then D.p b 0 0 else 0)

/-- What the backward sweep starts from. -/
def final (b : Fin 16) : Pair := (fun u => if u = D.tl b then 1 else 0, fun u => if u + 1 = D.tl b then 1 else 0)

/-- The forward sweep after time `t`. -/
def fw (b : Fin 16) (t : ℕ) : Pair := alpha (D.sk b) (D.q b) (D.p b) (D.start b) t

/-- The backward sweep after `n` steps. -/
def bw (b : Fin 16) (n : ℕ) : Pair := beta (D.sk b) (D.q b) (D.p b) (D.len b) (D.final b) n

/-- The forward sweep, held at the sequence's end. -/
def hd (b : Fin 16) (t : ℕ) : Pair := held (D.sk b) (D.q b) (D.p b) (D.len b) (D.start b) t

/-- The total probability. -/
def total (b : Fin 16) : ℝ := (D.hd b 2047).1 (D.tl b) + (D.hd b 2047).2 (D.tl b - 1)

theorem p_pos (b : Fin 16) (t l : ℕ) : 0 < D.p b t l := Real.exp_pos _
theorem q_pos (b : Fin 16) (t : ℕ) : 0 < D.q b t := Real.exp_pos _
theorem sk_nonneg (b : Fin 16) (l : ℕ) : 0 ≤ D.sk b l := by unfold sk; split_ifs <;> norm_num

theorem start_nonneg (b : Fin 16) : Nonneg (D.start b) :=
  ⟨fun u => by unfold start; dsimp only; split_ifs; exacts [(D.q_pos b 0).le, le_refl _],
    fun u => by unfold start; dsimp only; split_ifs; exacts [(D.p_pos b 0 0).le, le_refl _]⟩

theorem final_nonneg (b : Fin 16) : Nonneg (D.final b) :=
  ⟨fun u => by unfold final; dsimp only; split_ifs <;> norm_num, fun u => by unfold final; dsimp only; split_ifs <;> norm_num⟩

theorem fw_nonneg (b : Fin 16) : ∀ t, Nonneg (D.fw b t)
  | 0 => D.start_nonneg b
  | t + 1 => fwd_nonneg (D.sk_nonneg b) (D.q_pos b _).le (fun u => (D.p_pos b _ u).le) (fw_nonneg b t)

theorem bw_nonneg (b : Fin 16) : ∀ n, Nonneg (D.bw b n)
  | 0 => D.final_nonneg b
  | n + 1 => by
    unfold bw; rw [beta]
    split_ifs
    · exact bwd_nonneg (D.sk_nonneg b) (D.q_pos b _).le (fun u => (D.p_pos b _ u).le) (bw_nonneg b n)
    · exact D.final_nonneg b

/-- The two sweeps' pairing is the total probability. -/
theorem pair_total (h : D.Ok) (b : Fin 16) : pair (D.fw b 1023) (D.bw b 1024) = D.total b := by
  have h1 := h.tl_ge b
  have h2 := h.tl_le b
  unfold fw bw
  rw [meet_middle (D.sk b) (D.q b) (D.p b) (h.len_ge b)]
  unfold pair total final hd
  dsimp only
  rw [Finset.sum_add_distrib]
  congr 1
  · rw [Finset.sum_eq_single (D.tl b)]
    · rw [if_pos rfl, mul_one]
    · intro u _ hu; rw [if_neg hu, mul_zero]
    · intro hu; exact absurd (Finset.mem_range.mpr (by omega)) hu
  · rw [Finset.sum_eq_single (D.tl b - 1)]
    · rw [if_pos (by omega), mul_one]
    · intro u _ hu; rw [if_neg (by omega), mul_zero]
    · intro hu; exact absurd (Finset.mem_range.mpr (by omega)) hu

/-- The extended labels. -/
def lab (b : Fin 16) (k : ℕ) : Fin 64 := if k % 2 = 0 then 0 else D.tg b (k / 2)

/-- The probability of an extended label. -/
def pr (b : Fin 16) (t k : ℕ) : ℝ := Real.exp (D.lp b t (D.lab b k))

/-- Whether the blank before an extended label may be skipped. -/
def may (b : Fin 16) (k : ℕ) : Prop := k % 2 = 1 ∧ (k = 1 ∨ D.tg b (k / 2) ≠ D.tg b (k / 2 - 1))

open Classical in
/-- The same as a number. -/
def al (b : Fin 16) (k : ℕ) : ℝ := if D.may b k then 1 else 0

/-- What the recursion over the extended labels starts from. -/
def begin (b : Fin 16) (k : ℕ) : ℝ := if k < 2 then D.pr b 0 k else 0

/-- The recursion over the extended labels. -/
def ex (b : Fin 16) (t k : ℕ) : ℝ := ext (D.len b) (D.al b) (D.pr b) (D.begin b) t k

theorem al_nonneg (b : Fin 16) (k : ℕ) : 0 ≤ D.al b k := by unfold al; split_ifs <;> norm_num

theorem pr_pos (b : Fin 16) (t k : ℕ) : 0 < D.pr b t k := Real.exp_pos _

theorem begin_nonneg (b : Fin 16) (k : ℕ) : 0 ≤ D.begin b k := by
  unfold begin; split_ifs; exacts [(D.pr_pos b 0 k).le, le_refl _]

theorem ex_nonneg (b : Fin 16) (t k : ℕ) : 0 ≤ D.ex b t k :=
  ext_nonneg (D.al_nonneg b) (fun t k => (D.pr_pos b t k).le) (D.begin_nonneg b) t k

theorem pr_even (b : Fin 16) (t u : ℕ) : D.pr b t (2 * u) = D.q b t := by
  unfold pr q p lab score lp
  rw [if_pos (by omega), if_neg (by omega), if_pos rfl]

theorem pr_odd (b : Fin 16) (t u : ℕ) (hu : u < 256) : D.pr b t (2 * u + 1) = D.p b t u := by
  unfold pr p lab score lp
  rw [if_neg (by omega), if_pos hu, show (2 * u + 1) / 2 = u by omega]

/-- The recursion over the extended labels ends at the total probability. -/
theorem ex_total (h : D.Ok) (b : Fin 16) : D.ex b 2047 (2 * D.tl b) + D.ex b 2047 (2 * D.tl b - 1) = D.total b := by
  have h1 := h.tl_ge b
  have h2 := h.tl_le b
  have e := ext_eq (D.sk b) (D.q b) (D.p b) (len := D.len b) (al := D.al b) (pr := D.pr b) (a := D.begin b) (x := D.start b)
    (fun u _ => by
      unfold begin start
      dsimp only
      split_ifs
      · exact D.pr_even b 0 u
      · omega
      · omega
      · rfl)
    (fun u hu => by
      unfold begin start
      dsimp only
      split_ifs
      · rw [D.pr_odd b 0 u hu]; congr
      · omega
      · omega
      · rfl)
    (fun t u _ => D.pr_even b t u) (fun t u hu => D.pr_odd b t u hu)
    (fun u _ => by unfold al may; rw [if_neg]; omega)
    (fun u h0 hu => by
      unfold al may sk code
      rw [if_neg (by omega : ¬u = 0), if_pos hu, if_pos (by omega : u - 1 < 256), show (2 * u + 1) / 2 = u by omega]
      by_cases he : D.tg b u = D.tg b (u - 1)
      · rw [if_neg, if_pos (by rw [he])]
        rintro ⟨_, h | h⟩
        · omega
        · exact h he
      · rw [if_pos ⟨by omega, Or.inr he⟩, if_neg]
        intro h; exact he (Fin.ext (by exact_mod_cast h)))
    2047
  unfold total ex hd
  rw [e.1 _ h2, show 2 * D.tl b - 1 = 2 * (D.tl b - 1) + 1 by omega, e.2 _ (by omega)]

end Data

/-- A real maximum subtracted before the exponentials and put back does not matter. -/
theorem log_sum_exp (m : ℝ) (a : Fin 64 → ℝ) :
    Ideal.log (∑ v, Ideal.exp ((a v : EReal) - (m : EReal))) = ((Real.log (∑ v, Real.exp (a v)) - m : ℝ) : EReal) := by
  have hpos : 0 < ∑ v, Real.exp (a v) := Finset.sum_pos (fun v _ => Real.exp_pos _) ⟨0, Finset.mem_univ _⟩
  have e : ∀ v, Ideal.exp ((a v : EReal) - (m : EReal)) = ((Real.exp (a v) / Real.exp m : ℝ) : EReal) := fun v => by
    rw [← EReal.coe_sub, Ideal.exp_coe, Real.exp_sub]
  have hs : ∑ v, Ideal.exp ((a v : EReal) - (m : EReal)) = (((∑ v, Real.exp (a v)) / Real.exp m : ℝ) : EReal) := by
    rw [Finset.sum_congr rfl fun v _ => e v, Finset.sum_div]
    exact (map_sum (⟨⟨Real.toEReal, EReal.coe_zero⟩, EReal.coe_add⟩ : ℝ →+ EReal) _ _).symm
  rw [hs]
  show L _ = _
  rw [L_pos (div_pos hpos (Real.exp_pos m)), Real.log_div hpos.ne' (Real.exp_pos m).ne', Real.log_exp]

/-- The largest of finitely many reals is a real. -/
theorem fold_max_coe {ι : Type} (S : Finset ι) (hS : S.Nonempty) (f : ι → EReal) (hf : ∀ i ∈ S, ∃ r : ℝ, f i = (r : EReal)) :
    ∃ m : ℝ, S.fold max (⊥ : EReal) f = (m : EReal) := by
  classical
  induction hS using Finset.Nonempty.cons_induction with
  | singleton i =>
    obtain ⟨r, hr⟩ := hf i (Finset.mem_singleton_self i)
    exact ⟨r, by rw [Finset.fold_singleton, hr]; exact max_eq_left bot_le⟩
  | cons i S hi hS ih =>
    obtain ⟨r, hr⟩ := hf i (Finset.mem_cons_self i S)
    obtain ⟨m, hm⟩ := ih fun j hj => hf j (Finset.mem_cons_of_mem hj)
    exact ⟨max r m, by rw [Finset.fold_cons, hr, hm]; exact (EReal.coe_strictMono.monotone.map_max).symm⟩

/-- The largest of finitely many logarithms is a logarithm. -/
theorem fold_max_L {ι : Type} (S : Finset ι) (f : ι → EReal) (x : ι → ℝ) (hx : ∀ i ∈ S, 0 ≤ x i) (hf : ∀ i ∈ S, f i = L (x i)) :
    ∃ μ : ℝ, 0 ≤ μ ∧ (∀ i ∈ S, x i ≤ μ) ∧ S.fold max (⊥ : EReal) f = L μ := by
  classical
  induction S using Finset.induction_on with
  | empty => exact ⟨0, le_refl _, fun i hi => absurd hi (Finset.notMem_empty i), by rw [Finset.fold_empty, L_zero]⟩
  | insert i S hi ih =>
    obtain ⟨μ, h0, h1, h2⟩ := ih (fun j hj => hx j (Finset.mem_insert_of_mem hj)) fun j hj => hf j (Finset.mem_insert_of_mem hj)
    have hi0 := hx i (Finset.mem_insert_self i S)
    refine ⟨max (x i) μ, hi0.trans (le_max_left _ _), fun j hj => ?_, ?_⟩
    · rcases Finset.mem_insert.mp hj with rfl | hj
      · exact le_max_left _ _
      · exact (h1 j hj).trans (le_max_right _ _)
    · rw [Finset.fold_insert hi, h2, hf i (Finset.mem_insert_self i S)]
      exact L_max hi0 h0

end Cert.Ctc

end
-- ==== Proof.Words.lean ====
/- Small counts as words. -/
module

public import proofs.«01_k».proof.Proof.Reals
public import Idealize.ShloMosaic.PureOps.Reduce

@[expose] public section

noncomputable section

namespace Cert.Ctc

open Idealize.ShloMosaic

theorem toInt_ofNat {n : ℕ} (h : n < 65536) : (BitVec.ofNat 32 n).toInt = (n : ℤ) := by
  rw [BitVec.toInt_eq_toNat_of_lt (by rw [BitVec.toNat_ofNat]; omega), BitVec.toNat_ofNat, Nat.mod_eq_of_lt (by omega)]

theorem slt_ofNat {m n : ℕ} (hm : m < 65536) (hn : n < 65536) : IntOp.cmpi .slt (BitVec.ofNat 32 m) (BitVec.ofNat 32 n) = 1#1 ↔ m < n := by
  have e : IntOp.cmpi .slt (BitVec.ofNat 32 m) (BitVec.ofNat 32 n) = BitVec.ofBool ((BitVec.ofNat 32 m).slt (BitVec.ofNat 32 n)) := rfl
  rw [e, BitVec.slt, toInt_ofNat hm, toInt_ofNat hn]
  by_cases h : m < n
  · simp [h]
  · simp [h]

end Cert.Ctc

end
-- ==== Proof.Advance.lean ====
/- What the carried rows hold, step by step. -/
module

public import proofs.«01_k».proof.Proof.Trips
public import proofs.«01_k».proof.Proof.Lanes
public import proofs.«01_k».proof.Proof.Model
public import proofs.«01_k».proof.Proof.Words

@[expose] public section

noncomputable section

namespace Cert.KernelIdeal.Advance

open Cert.KernelIdeal Cert.KernelIdeal.Gen Cert.KernelIdeal.Steps Cert.KernelIdeal.Lanes Cert.Ctc
open Idealize.ShloMosaic Idealize.ShloMosaic.TcCoe Idealize.ShloMosaic.Tactic

/-- The two masks, the lengths and the backward sweep's start. -/
structure Setting (D : Data) (sk sl : Arr Ideal) (len : IVec S16x1 32) (ie io : Arr Ideal) : Prop where
  skip : Weighs sk D.sk
  skipl : Weighs sl fun b => left (D.sk b)
  len_eq : ∀ b : Fin 16, len (ix2 b 0) = BitVec.ofNat 32 (D.len b)
  init : RepP ie io D.final

/-- A row of emissions is time `t`'s. -/
abbrev RowIs (D : Data) (t : ℕ) (g : Vec Ideal S16x1x384 .f32) : Prop := Emits g (fun b => D.p b t) fun b => D.q b t

/-- The carried rows after `n` steps: the forward sweep at time `n`, the backward sweep after `n + 1` steps. -/
structure At (D : Data) (n : ℕ) (c : Car Ideal) : Prop where
  fw : RepP c.1 c.2.1 fun b => D.fw b n
  bw : RepP c.2.2.1 c.2.2.2 fun b => D.bw b (n + 1)

section

variable {D : Data} {sk sl : Arr Ideal} {len : IVec S16x1 32} {ie io : Arr Ideal}

/-- The backward step, at the time it stands at. -/
theorem bw_step (hD : D.Ok) (hs : Setting D sk sl len ie io) {n : ℕ} (hn : n < 2048) {E O : Arr Ideal} {g : Vec Ideal S16x1x384 .f32}
    (hg : RowIs D (2047 - n) g) (h : RepP E O fun b => D.bw b n) :
    RepP (bE len ie (BitVec.ofNat 32 (2047 - n)) g E O) (bO sl len io (BitVec.ofNat 32 (2047 - n)) g E O) fun b => D.bw b (n + 1) := by
  have e := bwd_rep (tt := BitVec.ofNat 32 (2047 - n)) (len := len) hs.skipl (fun b u => D.sk_nonneg b u) hg hs.init h fun b => D.bw_nonneg b n
  have e2 : (fun b => if IntOp.cmpi .slt (BitVec.ofNat 32 (2047 - n)) (len (ix2 b 0)) = 1#1 then bwd (D.sk b) (D.q b (2047 - n)) (D.p b (2047 - n)) (D.bw b n) else D.final b)
      = fun b => D.bw b (n + 1) := by
    funext b
    have hl := hD.len_le b
    rw [hs.len_eq b]
    show _ = if 2047 - n < D.len b then _ else _
    by_cases hlt : 2047 - n < D.len b
    · rw [if_pos ((slt_ofNat (by omega) (by omega)).2 hlt), if_pos hlt]; rfl
    · rw [if_neg (fun hc => hlt ((slt_ofNat (by omega) (by omega)).1 hc)), if_neg hlt]
  rw [← e2]
  exact e

theorem both_at (hD : D.Ok) (hs : Setting D sk sl len ie io) {n : ℕ} (hn : n < 2046) {c : Car Ideal} {g h : Vec Ideal S16x1x384 .f32} {tt : BitVec 32}
    (ht : tt = BitVec.ofNat 32 (2047 - (n + 1))) (hg : RowIs D (n + 1) g) (hh : RowIs D (2047 - (n + 1)) h) (hc : At D n c) :
    At D (n + 1) (both sk sl len ie io tt g h c) := by
  subst ht
  exact ⟨fwd_rep hs.skip (fun b u => D.sk_nonneg b u) hg hc.fw fun b => D.fw_nonneg b n, bw_step hD hs (by omega) hh hc.bw⟩

theorem steps_at (hD : D.Ok) (hs : Setting D sk sl len ie io) {s : ℕ} {c : Car Ideal} {g h : ℕ → Vec Ideal S16x1x384 .f32} {tt : ℕ → BitVec 32} (hc : At D s c) :
    ∀ N : ℕ, s + N < 2047 → (∀ n < N, tt n = BitVec.ofNat 32 (2047 - (s + n + 1)) ∧ RowIs D (s + n + 1) (g n) ∧ RowIs D (2047 - (s + n + 1)) (h n)) →
      At D (s + N) (steps sk sl len ie io tt g h c N)
  | 0, _, _ => hc
  | N + 1, hN, hr => by
    obtain ⟨h1, h2, h3⟩ := hr N (by omega)
    exact both_at (n := s + N) hD hs (by omega) h1 h2 h3 (steps_at hD hs hc N (by omega) fun n hn => hr n (by omega))

end

end Cert.KernelIdeal.Advance

end
-- ==== Proof.Rows.lean ====
/- The rows a loop reads and the times it stands at. -/
module

public import proofs.«01_k».proof.Proof.Advance

@[expose] public section

noncomputable section

namespace Cert.KernelIdeal.Advance

open Cert.KernelIdeal Cert.KernelIdeal.Gen Cert.KernelIdeal.Steps Cert.KernelIdeal.Lanes Cert.Ctc
open Idealize.ShloMosaic Idealize.ShloMosaic.TcCoe Idealize.ShloMosaic.Tactic

/-- An emission buffer holds the 128 times from `t₀` on. -/
def Filled (D : Data) (t₀ : ℕ) (m : Memref sig .tc .vmem S16x128x384 .f32) (X : BufTy.Contents (Elt Ideal) m.view.ty) : Prop :=
  ∀ (b : Fin 16) (t : Fin 128) (l : Fin 384), m.view.read (Elt Ideal) X (ix3 b t l) = ((Real.log (D.p b (t₀ + t) l) : ℝ) : EReal)

theorem Filled.row {D : Data} {t₀ : ℕ} {m : Memref sig .tc .vmem S16x128x384 .f32} {X : BufTy.Contents (Elt Ideal) m.view.ty} (h : Filled D t₀ m X)
    {off : Fin 3 → ℕ} (inb : ∀ a, off a + S16x1x384.size a ≤ S16x128x384.size a) {n : ℕ} (hn : n < 128) (h0 : off 0 = 0) (h1 : off 1 = n) (h2 : off 2 = 0) {t : ℕ} (ht : t₀ + n = t) :
    RowIs D t (View.readAt (Elt Ideal) m.view (Rect.unit (s := S16x128x384) off S16x1x384.size inb).toLoadRect X) := by
  subst ht
  refine ⟨fun b l => ?_, fun b l => D.p_pos b _ l, fun b => rfl⟩
  rw [View.readAt_apply, ← h b ⟨n, hn⟩ l]
  congr 1
  funext a
  fin_cases a
  · exact Fin.ext (show off 0 + 1 * b.val = b.val by omega)
  · exact Fin.ext (show off 1 + 1 * 0 = n by omega)
  · exact Fin.ext (show off 2 + 1 * l.val = l.val by omega)

theorem iv_eq (a k : ℕ) : Scf.iv (BitVec.ofNat 32 a) 1#32 k = BitVec.ofNat 32 (a + k) := by
  unfold Scf.iv
  rw [BitVec.ofNat_add]
  simp

theorem addi_eq (a b : ℕ) : Scalar.addi (BitVec.ofNat 32 a) (BitVec.ofNat 32 b) = BitVec.ofNat 32 (a + b) := (BitVec.ofNat_add ..).symm
theorem muli_eq (a b : ℕ) : Scalar.muli (BitVec.ofNat 32 a) (BitVec.ofNat 32 b) = BitVec.ofNat 32 (a * b) := (BitVec.ofNat_mul ..).symm
theorem subi_eq {a b : ℕ} (h : b ≤ a) : Scalar.subi (BitVec.ofNat 32 a) (BitVec.ofNat 32 b) = BitVec.ofNat 32 (a - b) := by
  show BitVec.ofNat 32 a - BitVec.ofNat 32 b = _
  rw [BitVec.sub_eq_iff_eq_add, ← BitVec.ofNat_add]
  congr 1; omega

theorem index_eq {a : ℕ} (h : a < 65536) : (Scalar.indexCast (BitVec.ofNat 32 a)).toNat = a := by
  show (BitVec.ofNat 32 a).toNat = a
  rw [BitVec.toNat_ofNat]; omega

theorem tt3_eq {K k n : ℕ} (hK : K < 7) (hk : k < 8) (hn : n < 16) :
    tt3 (Scalar.subi 2047#32 (Scalar.muli (Scf.iv 1#32 1#32 K) 128#32)) k n = BitVec.ofNat 32 (2047 - (128 * K + 127 + 16 * k + n + 1)) := by
  unfold tt3
  rw [iv_eq 1 K, iv_eq 0 k, muli_eq, subi_eq (by omega), muli_eq, addi_eq 0, addi_eq, subi_eq (by omega)]
  congr 1; omega

theorem tt1_eq {k n : ℕ} (hk : k < 7) (hn : n < 16) : tt1 k n = BitVec.ofNat 32 (2047 - (15 + 16 * k + n + 1)) := by
  unfold tt1
  rw [iv_eq 0 k, muli_eq, addi_eq 16, addi_eq, subi_eq (by omega)]
  congr 1; omega

theorem off35_one (k : Fin k0_t3_loop.trips) {n : ℕ} (hk : k.val < 8) (hn : n < 16) : k0_off35 k (BitVec.ofNat 32 n) 1 = 16 * k.val + n := by
  show (Scalar.indexCast (Scalar.addi (Scalar.addi 0#32 (Scalar.muli (Scf.iv 0#32 1#32 k.val) 16#32)) (BitVec.ofNat 32 n))).toNat = _
  rw [iv_eq 0, muli_eq, addi_eq 0, addi_eq, index_eq (by omega)]
  omega

theorem off36_one (k : Fin k0_t3_loop.trips) {n : ℕ} (hk : k.val < 8) (hn : n < 16) : k0_off36 k (BitVec.ofNat 32 n) 1 = 127 - (16 * k.val + n) := by
  show (Scalar.indexCast (Scalar.subi 127#32 (Scalar.addi (Scalar.addi 0#32 (Scalar.muli (Scf.iv 0#32 1#32 k.val) 16#32)) (BitVec.ofNat 32 n)))).toNat = _
  rw [iv_eq 0, muli_eq, addi_eq 0, addi_eq, subi_eq (by omega), index_eq (by omega)]
  omega

theorem off1_one (k : Fin k0_t1_loop.trips) {n : ℕ} (hk : k.val < 7) (hn : n < 16) : k0_off1 k (BitVec.ofNat 32 n) 1 = 16 + 16 * k.val + n := by
  show (Scalar.indexCast (Scalar.addi (Scalar.addi 16#32 (Scalar.muli (Scf.iv 0#32 1#32 k.val) 16#32)) (BitVec.ofNat 32 n))).toNat = _
  rw [iv_eq 0, muli_eq, addi_eq 16, addi_eq, index_eq (by omega)]
  omega

theorem off2_one (k : Fin k0_t1_loop.trips) {n : ℕ} (hk : k.val < 7) (hn : n < 16) : k0_off2 k (BitVec.ofNat 32 n) 1 = 127 - (16 + 16 * k.val + n) := by
  show (Scalar.indexCast (Scalar.subi 127#32 (Scalar.addi (Scalar.addi 16#32 (Scalar.muli (Scf.iv 0#32 1#32 k.val) 16#32)) (BitVec.ofNat 32 n)))).toNat = _
  rw [iv_eq 0, muli_eq, addi_eq 16, addi_eq, subi_eq (by omega), index_eq (by omega)]
  omega

end Cert.KernelIdeal.Advance

end
-- ==== Proof.Loops.lean ====
/- The two inner loops and the outer one, by what the carried rows hold. -/
module

public import proofs.«01_k».proof.Proof.Rows
public import proofs.«01_k».proof.Proof.Outer

@[expose] public section

noncomputable section

namespace Cert.KernelIdeal.Advance

open Cert.KernelIdeal Cert.KernelIdeal.Gen Cert.KernelIdeal.Steps Cert.KernelIdeal.Lanes Cert.Ctc
open Idealize.ShloMosaic Idealize.ShloMosaic.TcCoe Idealize.ShloMosaic.Tactic

section

variable (𝒱 : Variants) (c : Dev nD) (bd : Option 𝒱.V) (arg0 : Memref sig .tc .vmem S16x2048x64 .f32) (harg0 : arg0.IsWhole) (arg1 : Memref sig .tc .vmem S16x256 .i32) (harg1 : arg1.IsWhole) (arg2 : Memref sig .tc .vmem S16x1 .i32) (harg2 : arg2.IsWhole) (arg3 : Memref sig .tc .vmem S16x1 .i32) (harg3 : arg3.IsWhole) (arg4 : Memref sig .tc .vmem S16x128 .f32) (harg4 : arg4.IsWhole) (arg5 : Memref sig .tc .vmem S16x128x384 .f32) (harg5 : arg5.IsWhole) (arg6 : Memref sig .tc .vmem S16x128x384 .f32) (harg6 : arg6.IsWhole) (arg7 : Memref sig .tc .vmem S16x64x384 .f32) (harg7 : arg7.IsWhole)

/-- A trip of the outer loop is its inner loop, over the two buffers it fills. -/
theorem trip_eq {F : FTy → Type} [FloatOps F] [Named F] (sk sl : Arr F) (len : IVec S16x1 32) (ie io : Arr F) (X0 : BufTy.Contents (Elt F) arg0.view.ty) (X7 : BufTy.Contents (Elt F) arg7.view.ty)
    (k : Fin k0_t2_loop.trips) (acc : Steps.Car F) :
    (Outer.trip (F := F) 𝒱 c bd arg0 harg0 arg1 harg1 arg2 harg2 arg3 harg3 arg4 harg4 arg5 harg5 arg6 harg6 arg7 harg7 sk sl len ie io X0 X7 k).1 acc
      = st_k0_t3 (F := F) 𝒱 c bd arg0 harg0 arg1 harg1 arg2 harg2 arg3 harg3 arg4 harg4 arg5 harg5 arg6 harg6 arg7 harg7 sk sl len ie io (Scalar.subi 2047#32 (Scalar.muli (Scf.iv 1#32 1#32 k.val) 128#32))
          (arg5.view.writes (Elt F) arg5.view.junk (Outer.trip.sl.H5_16 arg0 arg7 X0 X7 k)) (arg6.view.writes (Elt F) arg6.view.junk (Outer.trip.sl.H6_16 arg0 arg7 X0 X7 k)) acc 8 := by
  unfold Outer.trip
  rfl

variable {D : Data} {sk sl : Arr Ideal} {len : IVec S16x1 32} {ie io : Arr Ideal}

/-- The inner loop of a trip of the outer loop. -/
theorem loop3_at (hD : D.Ok) (hs : Setting D sk sl len ie io) {K : ℕ} (hK : K < 7) (X5 : BufTy.Contents (Elt Ideal) arg5.view.ty) (X6 : BufTy.Contents (Elt Ideal) arg6.view.ty)
    (h5 : Filled D (128 * (K + 1)) arg5 X5) (h6 : Filled D (1920 - 128 * (K + 1)) arg6 X6) {acc : Steps.Car Ideal} (hc : At D (128 * K + 127) acc) :
    ∀ k : ℕ, k ≤ 8 → At D (128 * K + 127 + 16 * k)
      (st_k0_t3 (F := Ideal) 𝒱 c bd arg0 harg0 arg1 harg1 arg2 harg2 arg3 harg3 arg4 harg4 arg5 harg5 arg6 harg6 arg7 harg7 sk sl len ie io (Scalar.subi 2047#32 (Scalar.muli (Scf.iv 1#32 1#32 K) 128#32)) X5 X6 acc k)
  | 0, _ => hc
  | k + 1, hk => by
    have ht : k0_t3_loop.trips = 8 := rfl
    have hk' : k < k0_t3_loop.trips := by omega
    have ih := loop3_at hD hs hK X5 X6 h5 h6 hc k (by omega)
    rw [show k + 1 = (⟨k, hk'⟩ : Fin k0_t3_loop.trips).val + 1 from rfl, st_k0_t3_succ, trip3_eq]
    refine steps_at hD hs (s := 128 * K + 127 + 16 * k) ih 16 (by omega) fun n hn => ⟨?_, ?_, ?_⟩
    · exact tt3_eq hK (by omega) hn
    · have e : (Fin.ofNat 16 n).val = n := Nat.mod_eq_of_lt hn
      exact h5.row _ (n := 16 * k + n) (by omega) rfl (by rw [e]; exact off35_one ⟨k, hk'⟩ (by show k < 8; omega) hn) rfl (by omega)
    · have e : (Fin.ofNat 16 n).val = n := Nat.mod_eq_of_lt hn
      exact h6.row _ (n := 127 - (16 * k + n)) (by omega) rfl (by rw [e]; exact off36_one ⟨k, hk'⟩ (by show k < 8; omega) hn) rfl (by omega)

/-- The inner loop in front of the outer loop. -/
theorem loop1_at (hD : D.Ok) (hs : Setting D sk sl len ie io) (X5 : BufTy.Contents (Elt Ideal) arg5.view.ty) (X6 : BufTy.Contents (Elt Ideal) arg6.view.ty)
    (h5 : Filled D 0 arg5 X5) (h6 : Filled D 1920 arg6 X6) {acc : Steps.Car Ideal} (hc : At D 15 acc) :
    ∀ k : ℕ, k ≤ 7 → At D (15 + 16 * k)
      (st_k0_t1 (F := Ideal) 𝒱 c bd arg0 harg0 arg1 harg1 arg2 harg2 arg3 harg3 arg4 harg4 arg5 harg5 arg6 harg6 arg7 harg7 sk sl len ie io 0#32 X5 X6 acc k)
  | 0, _ => hc
  | k + 1, hk => by
    have ht : k0_t1_loop.trips = 7 := rfl
    have hk' : k < k0_t1_loop.trips := by omega
    have ih := loop1_at hD hs X5 X6 h5 h6 hc k (by omega)
    rw [show k + 1 = (⟨k, hk'⟩ : Fin k0_t1_loop.trips).val + 1 from rfl, st_k0_t1_succ, trip1_eq]
    refine steps_at hD hs (s := 15 + 16 * k) ih 16 (by omega) fun n hn => ⟨?_, ?_, ?_⟩
    · exact tt1_eq (by show k < 7; omega) hn
    · have e : (Fin.ofNat 16 n).val = n := Nat.mod_eq_of_lt hn
      exact h5.row _ (n := 16 + 16 * k + n) (by omega) rfl (by rw [e]; exact off1_one ⟨k, hk'⟩ (by show k < 7; omega) hn) rfl (by omega)
    · have e : (Fin.ofNat 16 n).val = n := Nat.mod_eq_of_lt hn
      exact h6.row _ (n := 127 - (16 + 16 * k + n)) (by omega) rfl (by rw [e]; exact off2_one ⟨k, hk'⟩ (by show k < 7; omega) hn) rfl (by omega)

/-- The outer loop. -/
theorem loop2_at (hD : D.Ok) (hs : Setting D sk sl len ie io) (X0 : BufTy.Contents (Elt Ideal) arg0.view.ty) (X7 : BufTy.Contents (Elt Ideal) arg7.view.ty)
    (h5 : ∀ k : Fin k0_t2_loop.trips, Filled D (128 * (k.val + 1)) arg5 (arg5.view.writes (Elt Ideal) arg5.view.junk (Outer.trip.sl.H5_16 arg0 arg7 X0 X7 k)))
    (h6 : ∀ k : Fin k0_t2_loop.trips, Filled D (1920 - 128 * (k.val + 1)) arg6 (arg6.view.writes (Elt Ideal) arg6.view.junk (Outer.trip.sl.H6_16 arg0 arg7 X0 X7 k)))
    {acc : Steps.Car Ideal} (hc : At D 127 acc) :
    ∀ k : ℕ, k ≤ 7 → At D (128 * k + 127) (Outer.st (F := Ideal) 𝒱 c bd arg0 harg0 arg1 harg1 arg2 harg2 arg3 harg3 arg4 harg4 arg5 harg5 arg6 harg6 arg7 harg7 sk sl len ie io X0 X7 acc k)
  | 0, _ => hc
  | k + 1, hk => by
    have ht : k0_t2_loop.trips = 7 := rfl
    have hk' : k < k0_t2_loop.trips := by omega
    have ih := loop2_at hD hs X0 X7 h5 h6 hc k (by omega)
    rw [show k + 1 = (⟨k, hk'⟩ : Fin k0_t2_loop.trips).val + 1 from rfl, Outer.st_succ, trip_eq]
    exact loop3_at 𝒱 c bd arg0 harg0 arg1 harg1 arg2 harg2 arg3 harg3 arg4 harg4 arg5 harg5 arg6 harg6 arg7 harg7 hD hs (K := k) (by omega) _ _ (h5 ⟨k, hk'⟩) (h6 ⟨k, hk'⟩) ih 8 (le_refl _)

end

end Cert.KernelIdeal.Advance

end
-- ==== Proof.Masks.lean ====
/- The label codes, the masks, the lengths and what the two sweeps start from, lane by lane. -/
module

public import proofs.«01_k».proof.Proof.Advance
public import proofs.«01_k».proof.Proof.Body
public import Idealize.ShloMosaic.Lib.IdealHost

@[expose] public section

noncomputable section

namespace Cert.KernelIdeal.Masks

open Cert.KernelIdeal Cert.KernelIdeal.Gen Cert.KernelIdeal.Steps Cert.KernelIdeal.Lanes Cert.KernelIdeal.Advance Cert.Ctc
open Idealize.ShloMosaic Idealize.ShloMosaic.TcCoe Idealize.ShloMosaic.Tactic

theorem pick (c : BitVec 1) (a b : EReal) : Scalar.select c a b = if c = 1#1 then a else b := rfl
theorem pickw (c : BitVec 1) (a b : BitVec 32) : Scalar.select c a b = if c = 1#1 then a else b := rfl

theorem eq_one_iff (x y : BitVec 32) : IntOp.cmpi .eq x y = 1#1 ↔ x = y := by
  show BitVec.ofBool (x == y) = 1#1 ↔ _
  by_cases h : x = y
  · rw [beq_iff_eq.2 h]; exact ⟨fun _ => h, fun _ => rfl⟩
  · rw [beq_eq_false_iff_ne.2 h]; exact ⟨fun h' => absurd h' (by decide), fun h' => absurd h' h⟩

theorem ne_one_iff (x y : BitVec 32) : IntOp.cmpi .ne x y = 1#1 ↔ x ≠ y := by
  show BitVec.ofBool (x != y) = 1#1 ↔ _
  by_cases h : x = y
  · rw [show (x != y) = false by rw [bne, beq_iff_eq.2 h]; rfl]; exact ⟨fun h' => absurd h' (by decide), fun h' => absurd h h'⟩
  · rw [show (x != y) = true by rw [bne, beq_eq_false_iff_ne.2 h]; rfl]; exact ⟨fun _ => h, fun _ => rfl⟩

theorem word_inj {m n : ℕ} (hm : m < 65536) (hn : n < 65536) : BitVec.ofNat 32 m = BitVec.ofNat 32 n ↔ m = n := by
  constructor
  · intro h
    have h2 := congrArg BitVec.toNat h
    rw [BitVec.toNat_ofNat, BitVec.toNat_ofNat] at h2
    omega
  · rintro rfl; rfl

theorem code_inj {m n : ℤ} (hm : -1 ≤ m) (hm' : m < 64) (hn : -1 ≤ n) (hn' : n < 64) : BitVec.ofInt 32 m = BitVec.ofInt 32 n ↔ m = n := by
  constructor
  · intro h
    have h2 := congrArg BitVec.toInt h
    rw [BitVec.toInt_ofInt, BitVec.toInt_ofInt] at h2
    unfold Int.bmod at h2
    norm_num at h2
    split_ifs at h2 <;> omega
  · rintro rfl; rfl

theorem code_ge (D : Data) (b : Fin 16) (l : ℕ) : -1 ≤ D.code b l := by
  unfold Data.code; split_ifs <;> omega

theorem code_lt (D : Data) (b : Fin 16) (l : ℕ) : D.code b l < 64 := by
  have := (D.tg b l).isLt
  unfold Data.code; split_ifs <;> omega

/-- Every lane holds its label's code. -/
def Coded (D : Data) (v : IVec S16x384 32) : Prop := ∀ (b : Fin 16) (l : Fin 384), v (ix2 b l) = BitVec.ofInt 32 (D.code b l)

theorem lanes_apply (b : Fin 16) (l : Fin 384) : (Body.run.sl.v0) (ix2 b l) = BitVec.ofNat 32 l.val := by
  pointwise [Body.run.sl.v0]

/-- The targets, the blank and no labels, side by side. -/
theorem coded_of {D : Data} {x : IVec S16x256 32} (hx : ∀ (b : Fin 16) (u : Fin 256), x (ix2 b u) = BitVec.ofNat 32 (D.tg b u).val) :
    Coded D (concatenate S16x384 1 [⟨S16x256, x⟩, ⟨S16x128, Body.run.sl.v7⟩] concatenates_S16x256_S16x128_S16x384_d1) := by
  intro b l
  pointwise [Body.run.sl.v7, Body.run.sl.v6, Body.run.sl.v3, Body.run.sl.v2]
  unfold Data.code
  split_ifs with h1 h2
  · rw [hx]; rfl
  · rw [pickw, if_pos ((eq_one_iff _ _).2 (by rw [h2]))]; rfl
  · rw [pickw, if_neg (fun h => by
      have := (word_inj (n := 0) (by omega) (by omega)).1 ((eq_one_iff _ _).1 h)
      omega)]; rfl

section

variable {D : Data} {v : IVec S16x384 32}

theorem skip_weighs (hD : D.Ok) (hv : Coded D v) : Weighs (k0_pay601 (F := Ideal) v 4294967295#32) D.sk := by
  intro b l
  pointwise [k0_pay601]
  rw [pick, hv]
  unfold Data.sk
  by_cases h0 : l.val = 0
  · rw [if_pos h0, dif_pos (by omega), if_pos]
    · rfl
    · refine (ne_one_iff _ _).2 fun h => ?_
      have hc := (code_inj (n := -1) (code_ge D b l) (code_lt D b l) (by omega) (by omega)).1 (h.trans (by decide))
      have h2 := hD.tg_ge b l (by omega)
      unfold Data.code at hc
      rw [if_pos (by omega)] at hc
      omega
  · rw [if_neg h0, dif_neg (by omega), hv]
    by_cases hc : D.code b l = D.code b (l.val - 1)
    · rw [if_pos hc, if_neg]
      · rfl
      · exact fun h => (ne_one_iff _ _).1 h (by rw [hc])
    · rw [if_neg hc, if_pos]
      · rfl
      · exact (ne_one_iff _ _).2 fun h => hc ((code_inj (code_ge D b _) (code_lt D b _) (code_ge D b _) (code_lt D b _)).1 h)

theorem skipl_weighs (hD : D.Ok) (hv : Coded D v) : Weighs (k0_pay602 (F := Ideal) v 4294967295#32) fun b => left (D.sk b) := by
  intro b l
  have h := skip_weighs hD hv b
  unfold k0_pay602
  generalize k0_pay601 (F := Ideal) v 4294967295#32 = w at h
  pointwise []
  unfold left
  split_ifs with h1
  · rw [h]
    exact congrArg (fun n : ℕ => ((D.sk b n : ℝ) : EReal)) (Nat.add_comm 1 l.val)
  · rfl

theorem final_reps (hD : D.Ok) {x : IVec S16x1 32} (hx : ∀ b : Fin 16, x (ix2 b 0) = BitVec.ofNat 32 (D.tl b)) :
    RepP (k0_pay605 (F := Ideal) Body.run.sl.v0 x) (k0_pay606 (F := Ideal) Body.run.sl.v0 x) D.final := by
  refine ⟨fun b l => ?_, fun b l => ?_⟩
  · pointwise [k0_pay605, k0_pay604]
    rw [pick, lanes_apply, hx]
    have h2 := hD.tl_le b
    show _ = L (if l.val = D.tl b then 1 else 0)
    by_cases h : l.val = D.tl b
    · rw [if_pos ((eq_one_iff _ _).2 ((word_inj (by omega) (by omega)).2 h)), if_pos h, L_one]
    · rw [if_neg fun h' => h ((word_inj (by omega) (by omega)).1 ((eq_one_iff _ _).1 h')), if_neg h, L_zero]; rfl
  · pointwise [k0_pay606, k0_pay604]
    rw [pick, lanes_apply, hx]
    have h1 := hD.tl_ge b
    have h2 := hD.tl_le b
    have e : BitVec.ofNat 32 (D.tl b) - 1#32 = BitVec.ofNat 32 (D.tl b - 1) := by
      rw [BitVec.sub_eq_iff_eq_add, ← BitVec.ofNat_add]; congr 1; omega
    show (if IntOp.cmpi .eq _ (BitVec.ofNat 32 (D.tl b) - 1#32) = 1#1 then _ else _) = L (if l.val + 1 = D.tl b then 1 else 0)
    rw [e]
    by_cases h : l.val + 1 = D.tl b
    · rw [if_pos ((eq_one_iff _ _).2 ((word_inj (by omega) (by omega)).2 (by omega))), if_pos h, L_one]
    · rw [if_neg fun h' => h (by have := (word_inj (by omega) (by omega)).1 ((eq_one_iff _ _).1 h'); omega), if_neg h, L_zero]; rfl

theorem start_reps {g : Vec Ideal S16x1x384 .f32} (hg : RowIs D 0 g) :
    RepP (k0_pay671 (F := Ideal) Body.run.sl.v0 g) (k0_pay673 (F := Ideal) Body.run.sl.v0 (k0_pay670 g) k0_pay672) fun b => D.fw b 0 := by
  refine ⟨fun b l => ?_, fun b l => ?_⟩
  · pointwise [k0_pay671, k0_pay670]
    rw [pick, lanes_apply, hg.1]
    show _ = L (if l.val = 0 then D.q b 0 else 0)
    by_cases h : l.val = 0
    · rw [if_pos ((eq_one_iff _ _).2 (by rw [h])), if_pos h, L_pos (D.q_pos b 0)]; rfl
    · rw [if_neg fun h' => h ((word_inj (n := 0) (by omega) (by omega)).1 ((eq_one_iff _ _).1 h')), if_neg h, L_zero]; rfl
  · pointwise [k0_pay673, k0_pay672, k0_pay670]
    rw [pick, lanes_apply, hg.1]
    show _ = L (if l.val = 0 then D.p b 0 0 else 0)
    by_cases h : l.val = 0
    · rw [if_pos ((eq_one_iff _ _).2 (by rw [h])), if_pos h, L_pos (D.p_pos b 0 0), h]
    · rw [if_neg fun h' => h ((word_inj (n := 0) (by omega) (by omega)).1 ((eq_one_iff _ _).1 h')), if_neg h, L_zero]; rfl

end

end Cert.KernelIdeal.Masks

end
-- ==== Proof.Slabs.lean ====
/- A buffer written one batch row after another. -/
module

public import proofs.«01_k».proof.Proof.Rows
public import proofs.«01_k».proof.Proof.Outer
public import proofs.«01_k».proof.Proof.Body

@[expose] public section

noncomputable section

namespace Cert.KernelIdeal.Slabs

open Cert.KernelIdeal Cert.KernelIdeal.Gen
open Idealize.ShloMosaic Idealize.ShloMosaic.TcCoe Idealize.ShloMosaic.Tactic

variable {F : FTy → Type} [FloatOps F] [Named F]

theorem slab_inb (m n : ℕ) (h : n + 1 ≤ 16) : ∀ a, (![n, 0, 0] : Fin 3 → ℕ) a + (⟨3, ![1, m, 384]⟩ : Shape).size a ≤ (⟨3, ![16, m, 384]⟩ : Shape).size a := by
  intro a
  fin_cases a
  · exact h
  · exact (Nat.zero_add m).le
  · exact le_refl _

/-- The first `n` batch rows' stores, the newest first. -/
noncomputable def slabs (m : ℕ) (f : Fin 16 → FVec F ⟨3, ![1, m, 384]⟩ .f32) : (n : ℕ) → n ≤ 16 → List (View.Piece (Elt F) ⟨3, ![16, m, 384]⟩ .f32)
  | 0, _ => []
  | n + 1, h => ⟨Rect.unit (s := ⟨3, ![16, m, 384]⟩) ![n, 0, 0] (⟨3, ![1, m, 384]⟩ : Shape).size (slab_inb m n h), f ⟨n, h⟩⟩ :: slabs m f n (Nat.le_of_succ_le h)

theorem emb_slab {m n : ℕ} (h : n + 1 ≤ 16) (x : (⟨3, ![1, m, 384]⟩ : Shape).Idx) :
    (Rect.unit (s := ⟨3, ![16, m, 384]⟩) ![n, 0, 0] (⟨3, ![1, m, 384]⟩ : Shape).size (slab_inb m n h)).emb x = ix3 ⟨n, h⟩ (x 1) (x 2) := by
  funext a
  fin_cases a
  · have h0 : (x 0).val < 1 := (x 0).isLt
    exact Fin.ext (show n + 1 * (x 0).val = n by omega)
  · exact Fin.ext (show 0 + 1 * (x 1).val = (x 1).val by omega)
  · exact Fin.ext (show 0 + 1 * (x 2).val = (x 2).val by omega)

theorem slabs_pieces (m : ℕ) (f : Fin 16 → FVec F ⟨3, ![1, m, 384]⟩ .f32) (G : (⟨3, ![16, m, 384]⟩ : Shape).Idx → F .f32)
    (hG : ∀ b t l, G (ix3 b t l) = f b (ix3 0 t l)) : ∀ (n : ℕ) (h : n ≤ 16), ∀ p ∈ slabs m f n h, ∀ x : p.1.shape.Idx, p.2 x = G (p.1.emb x)
  | 0, _, _, hp, _ => absurd hp List.not_mem_nil
  | n + 1, h, p, hp, x => by
    rcases List.mem_cons.mp hp with rfl | hp
    · have e := emb_slab h x
      have hx : x = ix3 (n0 := 1) (n1 := m) (n2 := 384) 0 (x 1) (x 2) := by
        funext a
        fin_cases a
        · have h0 : (x 0).val < 1 := (x 0).isLt
          exact Fin.ext (show (x 0).val = 0 by omega)
        · rfl
        · rfl
      exact (congrArg (f ⟨n, h⟩) hx).trans ((hG ⟨n, h⟩ (x 1) (x 2)).symm.trans (congrArg G e).symm)
    · exact slabs_pieces m f G hG n _ p hp x

theorem slabs_cover (m : ℕ) (f : Fin 16 → FVec F ⟨3, ![1, m, 384]⟩ .f32) (b : Fin 16) (t : Fin m) (l : Fin 384) :
    ∀ (n : ℕ) (h : n ≤ 16), b.val < n → ∃ p ∈ slabs m f n h, (ix3 b t l : (⟨3, ![16, m, 384]⟩ : Shape).Idx) ∈ p.1.set
  | 0, _, hb => absurd hb (Nat.not_lt_zero _)
  | n + 1, h, hb => by
    by_cases e : b.val = n
    · refine ⟨_, List.mem_cons_self, ?_⟩
      have hb' : b = ⟨n, h⟩ := Fin.ext e
      have e' := emb_slab (m := m) h (ix3 0 t l)
      rw [hb', show (ix3 ⟨n, h⟩ t l : (⟨3, ![16, m, 384]⟩ : Shape).Idx) = _ from e'.symm]
      exact LoadRect.idx_mem _ _
    · obtain ⟨p, hp, hm⟩ := slabs_cover m f b t l n (Nat.le_of_succ_le h) (by omega)
      exact ⟨p, List.mem_cons_of_mem _ hp, hm⟩

/-- What the buffer reads after all sixteen stores. -/
theorem read_slabs {sig : RefSig} {κ : Kind} {sp : Space} (m : ℕ) (v : View sig κ sp ⟨3, ![16, m, 384]⟩ .f32) (g : v.ty.Contents (Elt F)) (f : Fin 16 → FVec F ⟨3, ![1, m, 384]⟩ .f32)
    (b : Fin 16) (t : Fin m) (l : Fin 384) :
    v.read (Elt F) (v.writes (Elt F) g (slabs m f 16 (le_refl _))) (ix3 b t l) = f b (ix3 0 t l) :=
  View.read_writes_apply_of_pieces v g (fun y => f (y 0) (ix3 0 (y 1) (y 2))) _ (slabs_pieces m f (fun y => f (y 0) (ix3 0 (y 1) (y 2))) (fun _ _ _ => rfl) 16 (le_refl _)) _ (slabs_cover m f b t l 16 _ b.isLt)

theorem hot_slices (b : Fin 16) : S16x384.Slices ![b.val, 0] S1x384 := by revert b; decide

/-- The one-hot rows of a batch row: where lane `l`'s label is `v`. -/
noncomputable def hot (v8 : IVec S16x384 32) (b : Fin 16) : FVec F S1x64x384 .f32 :=
  shapeCast S1x64x384 (sitofp .f32 (extui 32 (cmpi .eq Body.run.sl.v9 (broadcastTo S64x384 (shapeCast S1x384 (shapeCast S384 (extractStridedSlice S1x384 ![b.val, 0] v8 (hot_slices b)) shapeCasts_S1x384_S384) shapeCasts_S384_S1x384) broadcasts_S1x384_S64x384)) natLt_1_32)) shapeCasts_S64x384_S1x64x384

theorem hot_inb (b : Fin 16) : ∀ a, (![b.val, 0, 0] : Fin 3 → ℕ) a + S1x64x384.size a ≤ S16x64x384.size a := slab_inb 64 b.val b.isLt

/-- The one-hot rows of a batch row, read back. -/
noncomputable def hotAt (arg7 : Memref sig .tc .vmem S16x64x384 .f32) (X7 : BufTy.Contents (Elt F) arg7.view.ty) (b : Fin 16) : Vec F S1x64x384 .f32 :=
  View.readAt (Elt F) arg7.view (Rect.unit (s := S16x64x384) ![b.val, 0, 0] S1x64x384.size (hot_inb b)).toLoadRect X7

theorem logits_inb (b : Fin 16) (t : ℕ) (ht : t + 128 ≤ 2048) : ∀ a, (![b.val, t, 0] : Fin 3 → ℕ) a + S1x128x64.size a ≤ S16x2048x64.size a := by
  intro a
  fin_cases a
  · exact b.isLt
  · exact ht
  · exact le_refl _

/-- The logits of a batch row at the 128 times from `t` on. -/
noncomputable def logitsAt (arg0 : Memref sig .tc .vmem S16x2048x64 .f32) (X0 : BufTy.Contents (Elt F) arg0.view.ty) (t : ℕ) (ht : t + 128 ≤ 2048) (b : Fin 16) : Vec F S1x128x64 .f32 :=
  View.readAt (Elt F) arg0.view (Rect.unit (s := S16x2048x64) ![b.val, t, 0] S1x128x64.size (logits_inb b t ht)).toLoadRect X0

section

variable (arg0 : Memref sig .tc .vmem S16x2048x64 .f32) (arg1 : Memref sig .tc .vmem S16x256 .i32) (arg7 : Memref sig .tc .vmem S16x64x384 .f32)
  (X0 : BufTy.Contents (Elt F) arg0.view.ty) (X1 : BufTy.Contents (Elt F) arg1.view.ty) (X7 : BufTy.Contents (Elt F) arg7.view.ty)

/-- The emissions of the 128 times from `t` on, one batch row after another. -/
noncomputable abbrev fills (t : ℕ) (ht : t + 128 ≤ 2048) : List (View.Piece (Elt F) S16x128x384 .f32) :=
  slabs 128 (fun b => k0_pay669 (logitsAt arg0 X0 t ht b) (hotAt arg7 X7 b)) 16 (le_refl _)

set_option maxRecDepth 100000 in
theorem hots_eq : Body.run.sl.H7_16 arg1 X1 = slabs 64 (fun b => hot (F := F) (Body.run.sl.v8 arg1 X1) b) 16 (le_refl _) := rfl

set_option maxRecDepth 100000 in
theorem first5_eq : Body.run.sl.H5_16 arg0 arg1 arg7 X0 X1 = fills arg0 arg7 X0 (arg7.view.writes (Elt F) arg7.view.junk (Body.run.sl.H7_16 arg1 X1)) 0 (by omega) := rfl

set_option maxRecDepth 100000 in
theorem first6_eq : Body.run.sl.H6_16 arg0 arg1 arg7 X0 X1 = fills arg0 arg7 X0 (arg7.view.writes (Elt F) arg7.view.junk (Body.run.sl.H7_16 arg1 X1)) 1920 (by omega) := rfl

/-- Where the outer loop's trip reads its forward block of logits. -/
noncomputable abbrev at5 (k : ℕ) : ℕ := (Scalar.indexCast (Scalar.muli (Scf.iv 1#32 1#32 k) 128#32)).toNat
/-- Where the outer loop's trip reads its backward block of logits. -/
noncomputable abbrev at6 (k : ℕ) : ℕ := (Scalar.indexCast (Scalar.muli (Scalar.subi 15#32 (Scf.iv 1#32 1#32 k)) 128#32)).toNat

theorem trip5_eq (k : Fin k0_t2_loop.trips) (ht : at5 k.val + 128 ≤ 2048) : Outer.trip.sl.H5_16 arg0 arg7 X0 X7 k = fills arg0 arg7 X0 X7 (at5 k.val) ht := rfl

theorem trip6_eq (k : Fin k0_t2_loop.trips) (ht : at6 k.val + 128 ≤ 2048) : Outer.trip.sl.H6_16 arg0 arg7 X0 X7 k = fills arg0 arg7 X0 X7 (at6 k.val) ht := rfl

end

end Cert.KernelIdeal.Slabs

end
-- ==== Proof.Emission.lean ====
/- What a block of the emission buffers is filled with: the logarithms of the labels' probabilities. -/
module

public import proofs.«01_k».proof.Proof.Slabs
public import proofs.«01_k».proof.Proof.Masks
public import Idealize.ShloMosaic.Lib.MatmulPlain

@[expose] public section

noncomputable section

namespace Cert.KernelIdeal.Emission

open Cert.KernelIdeal Cert.KernelIdeal.Gen Cert.KernelIdeal.Masks Cert.KernelIdeal.Slabs Cert.Ctc
open Idealize.ShloMosaic Idealize.ShloMosaic.TcCoe Idealize.ShloMosaic.Tactic

theorem ninf : Ideal.ofBits .f32 0xFF800000#32 = (⊥ : EReal) := by simp [Ideal.ofBits, Ideal.ieee]

/-- A sum against a one-hot column picks a term, or nothing. -/
theorem sum_pick (a : Fin 64 → ℝ) (w : Fin 64 → EReal) (c : ℤ) (hw : ∀ v : Fin 64, w v = if (v.val : ℤ) = c then 1 else 0) :
    ∑ v, (a v : EReal) * w v = ((∑ v : Fin 64, if (v.val : ℤ) = c then a v else 0 : ℝ) : EReal) := by
  rw [show ((∑ v : Fin 64, if (v.val : ℤ) = c then a v else 0 : ℝ) : EReal) = ∑ v : Fin 64, ((if (v.val : ℤ) = c then a v else 0 : ℝ) : EReal)
    from map_sum (⟨⟨Real.toEReal, EReal.coe_zero⟩, EReal.coe_add⟩ : ℝ →+ EReal) _ _]
  refine Finset.sum_congr rfl fun v _ => ?_
  rw [hw v]
  split_ifs
  · rw [mul_one]
  · rw [mul_zero]; rfl

/-- The picked logit is the lane's score. -/
theorem pick_score (D : Data) (b : Fin 16) (t l : ℕ) : (∑ v : Fin 64, if (v.val : ℤ) = D.code b l then D.a b t v else 0) = D.score b t l := by
  unfold Data.code Data.score
  by_cases h1 : l < 256
  · simp only [if_pos h1]
    rw [Finset.sum_eq_single (D.tg b l)]
    · rw [if_pos rfl]
    · intro v _ hv; rw [if_neg fun h => hv (Fin.ext (by exact_mod_cast h))]
    · intro h; exact absurd (Finset.mem_univ _) h
  · simp only [if_neg h1]
    by_cases h2 : l = 256
    · simp only [if_pos h2]
      rw [Finset.sum_eq_single 0]
      · exact if_pos rfl
      · intro v _ hv; rw [if_neg fun h => hv (Fin.ext (show v.val = 0 by omega))]
      · intro h; exact absurd (Finset.mem_univ _) h
    · simp only [if_neg h2]
      exact Finset.sum_eq_zero fun v _ => if_neg (by omega)

theorem eq_zero_or_one (c : BitVec 1) : c = 0#1 ∨ c = 1#1 := by revert c; decide

/-- The one-hot rows, lane by lane. -/
theorem hot_apply {D : Data} {v8 : IVec S16x384 32} (hv : Coded D v8) (b : Fin 16) (v : Fin 64) (l : Fin 384) :
    hot (F := Ideal) v8 b (ix3 0 v l) = (if (v.val : ℤ) = D.code b l then 1 else 0 : EReal) := by
  pointwise [hot, Body.run.sl.v9]
  rw [hv b l]
  have hv' := v.isLt
  have e : BitVec.ofNat 32 v.val = BitVec.ofInt 32 (v.val : ℤ) := (BitVec.ofInt_natCast 32 v.val).symm
  show (((BitVec.setWidth 32 (IntOp.cmpi .eq (BitVec.ofNat 32 v.val) (BitVec.ofInt 32 (D.code b l)))).toInt : ℝ) : EReal) = _
  rw [e]
  by_cases h : (v.val : ℤ) = D.code b l
  · rw [if_pos h, (eq_one_iff _ _).2 (by rw [h])]
    norm_num
  · have h0 : IntOp.cmpi .eq (BitVec.ofInt 32 (v.val : ℤ)) (BitVec.ofInt 32 (D.code b l)) = 0#1 :=
      (eq_zero_or_one _).resolve_right fun h' => h ((code_inj (by omega) (by omega) (code_ge D b l) (code_lt D b l)).1 ((eq_one_iff _ _).1 h'))
    rw [if_neg h, h0]
    norm_num

/-- A filled block at a time and a lane. -/
theorem fill_apply {D : Data} {b : Fin 16} {t₀ : ℕ} {a : Vec Ideal S1x128x64 .f32} {o : Vec Ideal S1x64x384 .f32}
    (ha : ∀ (t : Fin 128) (v : Fin 64), a (ix3 0 t v) = ((D.a b (t₀ + t) v : ℝ) : EReal))
    (ho : ∀ (v : Fin 64) (l : Fin 384), o (ix3 0 v l) = (if (v.val : ℤ) = D.code b l then 1 else 0 : EReal)) (t : Fin 128) (l : Fin 384) :
    k0_pay669 (F := Ideal) a o (ix3 0 t l) = ((Real.log (D.p b (t₀ + t) l) : ℝ) : EReal) := by
  pointwise [k0_pay669]
  obtain ⟨m, hm⟩ := fold_max_coe Finset.univ ⟨0, Finset.mem_univ _⟩ (fun v : Fin 64 => a (ix3 0 t v)) fun v _ => ⟨_, ha t v⟩
  rw [ninf, hm]
  simp only [ha]
  rw [sum_pick _ _ _ fun v => ho v l, pick_score, log_sum_exp, ← EReal.coe_add, ← EReal.coe_sub]
  refine congrArg (fun r : ℝ => (r : EReal)) ?_
  unfold Data.p Data.lse
  rw [Real.log_exp]
  ring

end Cert.KernelIdeal.Emission

end
-- ==== Proof.Final.lean ====
/- What the kernel's last operations make of the two sweeps' rows: minus the logarithm of their pairing. -/
module

public import proofs.«01_k».proof.Proof.Lanes
public import proofs.«01_k».proof.Proof.Model
public import proofs.«01_k».proof.Proof.Emission

@[expose] public section

noncomputable section

namespace Cert.KernelIdeal.Final

open Cert.KernelIdeal Cert.KernelIdeal.Gen Cert.KernelIdeal.Steps Cert.KernelIdeal.Lanes Cert.Ctc
open Idealize.ShloMosaic Idealize.ShloMosaic.TcCoe Idealize.ShloMosaic.Tactic

/-- Two rows of logarithms summed through a common maximum. -/
theorem lse_rows {n : ℕ} (e o : Fin n → EReal) (x y : Fin n → ℝ) (μ : ℝ) (he : ∀ l, e l = L (x l)) (ho : ∀ l, o l = L (y l))
    (hx : ∀ l, 0 ≤ x l) (hy : ∀ l, 0 ≤ y l) (hx' : ∀ l, x l ≤ μ) (hy' : ∀ l, y l ≤ μ) (hμ : 0 ≤ μ) :
    L μ + Ideal.log ((∑ l, Ideal.exp (e l - L μ)) + ∑ l, Ideal.exp (o l - L μ)) = L (∑ l, (x l + y l)) := by
  rcases hμ.eq_or_lt with rfl | h
  · have hx0 : ∀ l, x l = 0 := fun l => le_antisymm (hx' l) (hx l)
    have hy0 : ∀ l, y l = 0 := fun l => le_antisymm (hy' l) (hy l)
    rw [L_zero, EReal.bot_add, Finset.sum_eq_zero fun l _ => by rw [hx0, hy0, add_zero], L_zero]
  · have h1 : ∀ (z : Fin n → ℝ), ((∑ l, z l : ℝ) : EReal) = ∑ l, (z l : EReal) := fun z => map_sum (⟨⟨Real.toEReal, EReal.coe_zero⟩, EReal.coe_add⟩ : ℝ →+ EReal) _ _
    have hsum : ((∑ l, Ideal.exp (e l - L μ)) + ∑ l, Ideal.exp (o l - L μ)) = (((∑ l, (x l + y l)) / μ : ℝ) : EReal) := by
      rw [Finset.sum_add_distrib, add_div, Finset.sum_div, Finset.sum_div, EReal.coe_add, h1, h1]
      congr 1
      · exact Finset.sum_congr rfl fun l _ => by rw [he, exp_sub (hx l) h]
      · exact Finset.sum_congr rfl fun l _ => by rw [ho, exp_sub (hy l) h]
    rw [hsum]
    exact log_div (Finset.sum_nonneg fun l _ => add_nonneg (hx l) (hy l)) h

/-- The kernel's value from the two sweeps' rows. -/
theorem value {aE aO dE dO : Arr Ideal} {x y : Fin 16 → Pair} (ha : RepP aE aO x) (hd : RepP dE dO y) (hx : ∀ b, Nonneg (x b)) (hy : ∀ b, Nonneg (y b))
    (b : Fin 16) (j : Fin 128) :
    k0_pay1 (F := Ideal) (k0_pay931 aE dE) (k0_pay932 aO dO) (ix2 b j) = -(L (pair (x b) (y b))) := by
  have rE : Rep (k0_pay931 (F := Ideal) aE dE) fun b u => (x b).1 u * (y b).1 u := fun b l => by
    show aE (ix2 b l) + dE (ix2 b l) = _
    rw [ha.1, hd.1, L_add ((hx b).1 _) ((hy b).1 _)]
  have rO : Rep (k0_pay932 (F := Ideal) aO dO) fun b u => (x b).2 u * (y b).2 u := fun b l => by
    show aO (ix2 b l) + dO (ix2 b l) = _
    rw [ha.2, hd.2, L_add ((hx b).2 _) ((hy b).2 _)]
  have nE : ∀ b u, 0 ≤ (x b).1 u * (y b).1 u := fun b u => mul_nonneg ((hx b).1 u) ((hy b).1 u)
  have nO : ∀ b u, 0 ≤ (x b).2 u * (y b).2 u := fun b u => mul_nonneg ((hx b).2 u) ((hy b).2 u)
  generalize k0_pay931 (F := Ideal) aE dE = A at rE
  generalize k0_pay932 (F := Ideal) aO dO = B at rO
  obtain ⟨μ, h0, h1, h2⟩ := fold_max_L Finset.univ (fun l : Fin 384 => A (ix2 b l)) (fun l => (x b).1 l * (y b).1 l) (fun l _ => nE b l) fun l _ => rE b l
  obtain ⟨ν, g0, g1, g2⟩ := fold_max_L Finset.univ (fun l : Fin 384 => B (ix2 b l)) (fun l => (x b).2 l * (y b).2 l) (fun l _ => nO b l) fun l _ => rO b l
  have e := lse_rows (fun l : Fin 384 => A (ix2 b l)) (fun l : Fin 384 => B (ix2 b l)) (fun l => (x b).1 l * (y b).1 l) (fun l => (x b).2 l * (y b).2 l)
    (max μ ν) (rE b) (rO b) (fun l => nE b l) (fun l => nO b l) (fun l => (h1 l (Finset.mem_univ l)).trans (le_max_left _ _))
    (fun l => (g1 l (Finset.mem_univ l)).trans (le_max_right _ _)) (h0.trans (le_max_left _ _))
  unfold pair
  rw [Finset.sum_range fun u => (x b).1 u * (y b).1 u + (x b).2 u * (y b).2 u, ← e, ← L_max h0 g0, ← h2, ← g2]
  pointwise [k0_pay1]
  rw [Emission.ninf]
  exact zero_sub _

end Cert.KernelIdeal.Final

end
-- ==== Proof.KernelValue.lean ====
/- What the kernel's body stores: minus the logarithm of the total probability, in every column. -/
module

public import proofs.«01_k».proof.Proof.Peeled
public import proofs.«01_k».proof.Proof.Loops
public import proofs.«01_k».proof.Proof.Masks
public import proofs.«01_k».proof.Proof.Emission
public import proofs.«01_k».proof.Proof.Final

@[expose] public section

noncomputable section

namespace Cert.KernelIdeal.KernelValue

open Cert.KernelIdeal Cert.KernelIdeal.Gen Cert.KernelIdeal.Steps Cert.KernelIdeal.Lanes Cert.KernelIdeal.Advance Cert.KernelIdeal.Masks Cert.KernelIdeal.Slabs
open Cert.Ctc
open Idealize.ShloMosaic Idealize.ShloMosaic.TcCoe Idealize.ShloMosaic.Tactic

/-- The arguments' buffers read as the numbers. -/
structure Reads (D : Data) (arg0 : Memref sig .tc .vmem S16x2048x64 .f32) (arg1 : Memref sig .tc .vmem S16x256 .i32) (arg2 arg3 : Memref sig .tc .vmem S16x1 .i32)
    (X0 : BufTy.Contents (Elt Ideal) arg0.view.ty) (X1 : BufTy.Contents (Elt Ideal) arg1.view.ty) (X2 : BufTy.Contents (Elt Ideal) arg2.view.ty)
    (X3 : BufTy.Contents (Elt Ideal) arg3.view.ty) : Prop where
  logit : ∀ (b : Fin 16) (t : Fin 2048) (v : Fin 64), arg0.view.read (Elt Ideal) X0 (ix3 b t v) = ((D.a b t v : ℝ) : EReal)
  target : ∀ (b : Fin 16) (u : Fin 256), arg1.view.read (Elt Ideal) X1 (ix2 b u) = BitVec.ofNat 32 (D.tg b u).val
  length : ∀ b : Fin 16, arg2.view.read (Elt Ideal) X2 (ix2 b 0) = BitVec.ofNat 32 (D.len b)
  tlength : ∀ b : Fin 16, arg3.view.read (Elt Ideal) X3 (ix2 b 0) = BitVec.ofNat 32 (D.tl b)

/-- A load of everything reads everything. -/
theorem readAt_all {n k : ℕ} {e : EltTy} (m : Memref sig .tc .vmem ⟨2, ![n, k]⟩ e) (X : BufTy.Contents (Elt Ideal) m.view.ty)
    (inb : ∀ a, (![0, 0] : Fin 2 → ℕ) a + (⟨2, ![n, k]⟩ : Shape).size a ≤ (⟨2, ![n, k]⟩ : Shape).size a) (b : Fin n) (u : Fin k) :
    View.readAt (Elt Ideal) m.view (Rect.unit (s := ⟨2, ![n, k]⟩) ![0, 0] (⟨2, ![n, k]⟩ : Shape).size inb).toLoadRect X (ix2 b u) = m.view.read (Elt Ideal) X (ix2 b u) := by
  rw [View.readAt_apply]
  congr 1
  funext a
  fin_cases a
  · exact Fin.ext (show 0 + 1 * b.val = b.val by omega)
  · exact Fin.ext (show 0 + 1 * u.val = u.val by omega)

section

variable (arg0 : Memref sig .tc .vmem S16x2048x64 .f32) (harg0 : arg0.IsWhole) (arg1 : Memref sig .tc .vmem S16x256 .i32) (harg1 : arg1.IsWhole)
  (arg2 : Memref sig .tc .vmem S16x1 .i32) (harg2 : arg2.IsWhole) (arg3 : Memref sig .tc .vmem S16x1 .i32) (harg3 : arg3.IsWhole)
  (arg4 : Memref sig .tc .vmem S16x128 .f32) (harg4 : arg4.IsWhole) (arg5 : Memref sig .tc .vmem S16x128x384 .f32) (harg5 : arg5.IsWhole)
  (arg6 : Memref sig .tc .vmem S16x128x384 .f32) (harg6 : arg6.IsWhole) (arg7 : Memref sig .tc .vmem S16x64x384 .f32) (harg7 : arg7.IsWhole)
  (X0 : BufTy.Contents (Elt Ideal) arg0.view.ty) (X1 : BufTy.Contents (Elt Ideal) arg1.view.ty) (X2 : BufTy.Contents (Elt Ideal) arg2.view.ty) (X3 : BufTy.Contents (Elt Ideal) arg3.view.ty)

variable {D : Data}

theorem coded (h : Reads D arg0 arg1 arg2 arg3 X0 X1 X2 X3) : Coded D (Body.run.sl.v8 (F := Ideal) arg1 X1) :=
  coded_of fun b u => (readAt_all arg1 X1 _ b u).trans (h.target b u)

theorem setting (hD : D.Ok) (h : Reads D arg0 arg1 arg2 arg3 X0 X1 X2 X3) :
    Setting D (Body.run.sl.r (F := Ideal) arg1 X1) (Body.run.sl.r_1 (F := Ideal) arg1 X1) (Body.run.sl.r_2 (F := Ideal) arg2 X2) (Body.run.sl.r_3 (F := Ideal) arg3 X3) (Body.run.sl.r_4 (F := Ideal) arg3 X3) where
  skip := skip_weighs hD (coded arg0 arg1 arg2 arg3 X0 X1 X2 X3 h)
  skipl := skipl_weighs hD (coded arg0 arg1 arg2 arg3 X0 X1 X2 X3 h)
  len_eq b := by
    have e : Body.run.sl.r_2 (F := Ideal) arg2 X2 (ix2 b 0) = View.readAt (Elt Ideal) arg2.view (Rect.unit (s := S16x1) ![0, 0] S16x1.size inb_S16x1_S16x1_0_0).toLoadRect X2 (ix2 b 0) := by
      pointwise [Body.run.sl.r_2, k0_pay603]
    rw [e]
    exact (readAt_all arg2 X2 _ b 0).trans (h.length b)
  init := final_reps hD fun b => (readAt_all arg3 X3 _ b 0).trans (h.tlength b)

/-- The one-hot rows' buffer once it is stored. -/
noncomputable abbrev buf7 : BufTy.Contents (Elt Ideal) arg7.view.ty := arg7.view.writes (Elt Ideal) arg7.view.junk (Body.run.sl.H7_16 (F := Ideal) arg1 X1)

theorem hotAt_apply (h : Reads D arg0 arg1 arg2 arg3 X0 X1 X2 X3) (b : Fin 16) (v : Fin 64) (l : Fin 384) :
    hotAt arg7 (buf7 arg1 arg7 X1) b (ix3 0 v l) = (if (v.val : ℤ) = D.code b l then 1 else 0 : EReal) := by
  rw [← Emission.hot_apply (coded arg0 arg1 arg2 arg3 X0 X1 X2 X3 h) b v l]
  unfold hotAt buf7
  rw [View.readAt_apply, hots_eq, ← read_slabs 64 arg7.view arg7.view.junk (fun b => hot (F := Ideal) (Body.run.sl.v8 arg1 X1) b) b v l]
  congr 1
  funext a
  fin_cases a
  · exact Fin.ext (show b.val + 1 * 0 = b.val by omega)
  · exact Fin.ext (show 0 + 1 * v.val = v.val by omega)
  · exact Fin.ext (show 0 + 1 * l.val = l.val by omega)

theorem logitsAt_apply (h : Reads D arg0 arg1 arg2 arg3 X0 X1 X2 X3) (t₀ : ℕ) (ht : t₀ + 128 ≤ 2048) (b : Fin 16) (t : Fin 128) (v : Fin 64) :
    logitsAt arg0 X0 t₀ ht b (ix3 0 t v) = ((D.a b (t₀ + t) v : ℝ) : EReal) := by
  have e := h.logit b ⟨t₀ + t.val, by omega⟩ v
  rw [← e]
  unfold logitsAt
  rw [View.readAt_apply]
  congr 1
  funext a
  fin_cases a
  · exact Fin.ext (show b.val + 1 * 0 = b.val by omega)
  · exact Fin.ext (show t₀ + 1 * t.val = t₀ + t.val by omega)
  · exact Fin.ext (show 0 + 1 * v.val = v.val by omega)

/-- A buffer filled from the 128 times on holds their emissions. -/
theorem filled (h : Reads D arg0 arg1 arg2 arg3 X0 X1 X2 X3) (t₀ : ℕ) (ht : t₀ + 128 ≤ 2048) (m : Memref sig .tc .vmem S16x128x384 .f32) :
    Filled D t₀ m (m.view.writes (Elt Ideal) m.view.junk (fills arg0 arg7 X0 (buf7 arg1 arg7 X1) t₀ ht)) := fun b t l =>
  (read_slabs 128 m.view m.view.junk (fun b => k0_pay669 (logitsAt arg0 X0 t₀ ht b) (hotAt arg7 (buf7 arg1 arg7 X1) b)) b t l).trans
    (Emission.fill_apply (logitsAt_apply arg0 arg1 arg2 arg3 X0 X1 X2 X3 h t₀ ht b) (hotAt_apply arg0 arg1 arg2 arg3 arg7 X0 X1 X2 X3 h b) t l)

theorem filled5 (h : Reads D arg0 arg1 arg2 arg3 X0 X1 X2 X3) : Filled D 0 arg5 (buf5 arg0 arg1 arg5 arg7 X0 X1) := by
  unfold buf5
  rw [first5_eq]
  exact filled arg0 arg1 arg2 arg3 arg7 X0 X1 X2 X3 h 0 _ arg5

theorem filled6 (h : Reads D arg0 arg1 arg2 arg3 X0 X1 X2 X3) : Filled D 1920 arg6 (buf6 arg0 arg1 arg6 arg7 X0 X1) := by
  unfold buf6
  rw [first6_eq]
  exact filled arg0 arg1 arg2 arg3 arg7 X0 X1 X2 X3 h 1920 _ arg6

theorem at5_eq {k : ℕ} (hk : k < 7) : at5 k = 128 * (k + 1) := by
  unfold at5
  rw [iv_eq 1, muli_eq, index_eq (by omega)]
  omega

theorem at6_eq {k : ℕ} (hk : k < 7) : at6 k = 1920 - 128 * (k + 1) := by
  unfold at6
  rw [iv_eq 1, subi_eq (by omega), muli_eq, index_eq (by omega)]
  omega

theorem filledTrip5 (h : Reads D arg0 arg1 arg2 arg3 X0 X1 X2 X3) (k : Fin k0_t2_loop.trips) :
    Filled D (128 * (k.val + 1)) arg5 (arg5.view.writes (Elt Ideal) arg5.view.junk (Outer.trip.sl.H5_16 arg0 arg7 X0 (buf7 arg1 arg7 X1) k)) := by
  have hk : k.val < 7 := k.isLt
  have e := at5_eq hk
  rw [trip5_eq arg0 arg7 X0 _ k (by omega), ← e]
  exact filled arg0 arg1 arg2 arg3 arg7 X0 X1 X2 X3 h _ _ arg5

theorem filledTrip6 (h : Reads D arg0 arg1 arg2 arg3 X0 X1 X2 X3) (k : Fin k0_t2_loop.trips) :
    Filled D (1920 - 128 * (k.val + 1)) arg6 (arg6.view.writes (Elt Ideal) arg6.view.junk (Outer.trip.sl.H6_16 arg0 arg7 X0 (buf7 arg1 arg7 X1) k)) := by
  have hk : k.val < 7 := k.isLt
  have e := at6_eq hk
  rw [trip6_eq arg0 arg7 X0 _ k (by omega), ← e]
  exact filled arg0 arg1 arg2 arg3 arg7 X0 X1 X2 X3 h _ _ arg6

/-- A row of a filled buffer. -/
theorem rowAt_is {t₀ : ℕ} {m : Memref sig .tc .vmem S16x128x384 .f32} {X : BufTy.Contents (Elt Ideal) m.view.ty} (h : Filled D t₀ m X) {n : ℕ} (hn : n < 128) {t : ℕ} (ht : t₀ + n = t) :
    RowIs D t (rowAt m X n) := by
  unfold rowAt
  exact h.row _ hn rfl (Nat.mod_eq_of_lt hn) rfl ht

/-- The carried rows before the first loop. -/
theorem at15 (hD : D.Ok) (h : Reads D arg0 arg1 arg2 arg3 X0 X1 X2 X3) : At D 15 (mid (F := Ideal) arg0 arg1 arg2 arg3 arg5 arg6 arg7 X0 X1 X2 X3 15) := by
  have hs := setting arg0 arg1 arg2 arg3 X0 X1 X2 X3 hD h
  have f5 := filled5 arg0 arg1 arg2 arg3 arg5 arg7 X0 X1 X2 X3 h
  have f6 := filled6 arg0 arg1 arg2 arg3 arg6 arg7 X0 X1 X2 X3 h
  rw [peeled_eq _ _ _ _ _ _ _ _ _ _ _ 15 (le_refl _)]
  refine steps_at (s := 0) hD hs ?_ 15 (by omega) fun n hn => ⟨?_, ?_, ?_⟩
  · rw [mid_zero]
    exact ⟨start_reps (rowAt_is f5 (n := 0) (by omega) rfl), bw_step hD hs (n := 0) (by omega) (rowAt_is f6 (n := 127) (by omega) rfl) hs.init⟩
  · congr 1; omega
  · exact rowAt_is f5 (by omega) (by omega)
  · exact rowAt_is f6 (by omega) (by omega)

end

end Cert.KernelIdeal.KernelValue

end
-- ==== Proof.Stored.lean ====
/- What the kernel's body stores: minus the logarithm of the total probability, in every column. -/
module

public import proofs.«01_k».proof.Proof.KernelValue
public import proofs.«01_k».proof.Proof.Body

@[expose] public section

noncomputable section

namespace Cert.KernelIdeal.KernelValue

open Cert.KernelIdeal Cert.KernelIdeal.Gen Cert.KernelIdeal.Steps Cert.KernelIdeal.Lanes Cert.KernelIdeal.Advance Cert.KernelIdeal.Masks Cert.KernelIdeal.Slabs
open Cert.Ctc
open Idealize.ShloMosaic Idealize.ShloMosaic.TcCoe Idealize.ShloMosaic.Tactic

section

variable (c : Dev nD) (arg0 : Memref sig .tc .vmem S16x2048x64 .f32) (harg0 : arg0.IsWhole) (arg1 : Memref sig .tc .vmem S16x256 .i32) (harg1 : arg1.IsWhole)
  (arg2 : Memref sig .tc .vmem S16x1 .i32) (harg2 : arg2.IsWhole) (arg3 : Memref sig .tc .vmem S16x1 .i32) (harg3 : arg3.IsWhole)
  (arg4 : Memref sig .tc .vmem S16x128 .f32) (harg4 : arg4.IsWhole) (arg5 : Memref sig .tc .vmem S16x128x384 .f32) (harg5 : arg5.IsWhole)
  (arg6 : Memref sig .tc .vmem S16x128x384 .f32) (harg6 : arg6.IsWhole) (arg7 : Memref sig .tc .vmem S16x64x384 .f32) (harg7 : arg7.IsWhole)
  (X0 : BufTy.Contents (Elt Ideal) arg0.view.ty) (X1 : BufTy.Contents (Elt Ideal) arg1.view.ty) (X2 : BufTy.Contents (Elt Ideal) arg2.view.ty) (X3 : BufTy.Contents (Elt Ideal) arg3.view.ty)

/-- The carried rows after the first loop. -/
abbrev first : Steps.Car Ideal :=
  st_k0_t1 (F := Ideal) Variants.none c none arg0 harg0 arg1 harg1 arg2 harg2 arg3 harg3 arg4 harg4 arg5 harg5 arg6 harg6 arg7 harg7
    (Body.run.sl.r (F := Ideal) arg1 X1) (Body.run.sl.r_1 (F := Ideal) arg1 X1) (Body.run.sl.r_2 (F := Ideal) arg2 X2) (Body.run.sl.r_3 (F := Ideal) arg3 X3) (Body.run.sl.r_4 (F := Ideal) arg3 X3) 0#32
    (buf5 arg0 arg1 arg5 arg7 X0 X1) (buf6 arg0 arg1 arg6 arg7 X0 X1)
    (mid (F := Ideal) arg0 arg1 arg2 arg3 arg5 arg6 arg7 X0 X1 X2 X3 15) 7

/-- The carried rows after the outer loop. -/
abbrev last : Steps.Car Ideal :=
  Outer.st (F := Ideal) Variants.none c none arg0 harg0 arg1 harg1 arg2 harg2 arg3 harg3 arg4 harg4 arg5 harg5 arg6 harg6 arg7 harg7
    (Body.run.sl.r (F := Ideal) arg1 X1) (Body.run.sl.r_1 (F := Ideal) arg1 X1) (Body.run.sl.r_2 (F := Ideal) arg2 X2) (Body.run.sl.r_3 (F := Ideal) arg3 X3) (Body.run.sl.r_4 (F := Ideal) arg3 X3)
    X0 (buf7 arg1 arg7 X1)
    (first c arg0 harg0 arg1 harg1 arg2 harg2 arg3 harg3 arg4 harg4 arg5 harg5 arg6 harg6 arg7 harg7 X0 X1 X2 X3) 7

variable {D : Data}

theorem last_at (hD : D.Ok) (h : Reads D arg0 arg1 arg2 arg3 X0 X1 X2 X3) :
    At D 1023 (last c arg0 harg0 arg1 harg1 arg2 harg2 arg3 harg3 arg4 harg4 arg5 harg5 arg6 harg6 arg7 harg7 X0 X1 X2 X3) := by
  have hs := setting arg0 arg1 arg2 arg3 X0 X1 X2 X3 hD h
  have a1 : At D 127 (first c arg0 harg0 arg1 harg1 arg2 harg2 arg3 harg3 arg4 harg4 arg5 harg5 arg6 harg6 arg7 harg7 X0 X1 X2 X3) :=
    loop1_at Variants.none c none arg0 harg0 arg1 harg1 arg2 harg2 arg3 harg3 arg4 harg4 arg5 harg5 arg6 harg6 arg7 harg7 hD hs _ _
      (filled5 arg0 arg1 arg2 arg3 arg5 arg7 X0 X1 X2 X3 h) (filled6 arg0 arg1 arg2 arg3 arg6 arg7 X0 X1 X2 X3 h)
      (at15 arg0 arg1 arg2 arg3 arg5 arg6 arg7 X0 X1 X2 X3 hD h) 7 (le_refl _)
  exact loop2_at Variants.none c none arg0 harg0 arg1 harg1 arg2 harg2 arg3 harg3 arg4 harg4 arg5 harg5 arg6 harg6 arg7 harg7 hD hs X0 _
    (filledTrip5 arg0 arg1 arg2 arg3 arg5 arg7 X0 X1 X2 X3 h) (filledTrip6 arg0 arg1 arg2 arg3 arg6 arg7 X0 X1 X2 X3 h) a1 7 (le_refl _)

/-- What the body stores, spelt with the rows both loops leave. -/
theorem stored_eq :
    (Body.run (F := Ideal) c arg0 harg0 arg1 harg1 arg2 harg2 arg3 harg3 arg4 harg4 arg5 harg5 arg6 harg6 arg7 harg7 X0 X1 X2 X3).1
      = [⟨Rect.unit ![0, 0] S16x128.size inb_S16x128_S16x128_0_0,
          k0_pay1 (F := Ideal)
            (k0_pay931 (last c arg0 harg0 arg1 harg1 arg2 harg2 arg3 harg3 arg4 harg4 arg5 harg5 arg6 harg6 arg7 harg7 X0 X1 X2 X3).1
              (last c arg0 harg0 arg1 harg1 arg2 harg2 arg3 harg3 arg4 harg4 arg5 harg5 arg6 harg6 arg7 harg7 X0 X1 X2 X3).2.2.1)
            (k0_pay932 (last c arg0 harg0 arg1 harg1 arg2 harg2 arg3 harg3 arg4 harg4 arg5 harg5 arg6 harg6 arg7 harg7 X0 X1 X2 X3).2.1
              (last c arg0 harg0 arg1 harg1 arg2 harg2 arg3 harg3 arg4 harg4 arg5 harg5 arg6 harg6 arg7 harg7 X0 X1 X2 X3).2.2.2)⟩] := by
  unfold Body.run
  rfl

theorem stored_value (hD : D.Ok) (h : Reads D arg0 arg1 arg2 arg3 X0 X1 X2 X3) (b : Fin 16) (j : Fin 128) :
    k0_pay1 (F := Ideal)
            (k0_pay931 (last c arg0 harg0 arg1 harg1 arg2 harg2 arg3 harg3 arg4 harg4 arg5 harg5 arg6 harg6 arg7 harg7 X0 X1 X2 X3).1
              (last c arg0 harg0 arg1 harg1 arg2 harg2 arg3 harg3 arg4 harg4 arg5 harg5 arg6 harg6 arg7 harg7 X0 X1 X2 X3).2.2.1)
            (k0_pay932 (last c arg0 harg0 arg1 harg1 arg2 harg2 arg3 harg3 arg4 harg4 arg5 harg5 arg6 harg6 arg7 harg7 X0 X1 X2 X3).2.1
              (last c arg0 harg0 arg1 harg1 arg2 harg2 arg3 harg3 arg4 harg4 arg5 harg5 arg6 harg6 arg7 harg7 X0 X1 X2 X3).2.2.2) (ix2 b j)
      = -(L (D.total b)) := by
  have a := last_at c arg0 harg0 arg1 harg1 arg2 harg2 arg3 harg3 arg4 harg4 arg5 harg5 arg6 harg6 arg7 harg7 X0 X1 X2 X3 hD h
  rw [Final.value a.fw a.bw (fun b => D.fw_nonneg b 1023) (fun b => D.bw_nonneg b 1024) b j, D.pair_total hD b]

end

end Cert.KernelIdeal.KernelValue

end
-- ==== Proof.Gather.lean ====
/- A gather along the lanes, one row of indices for each row of the operand, read at an index. -/
module

public import Idealize.ShloMosaic.Lib.Pointwise

@[expose] public section

noncomputable section

namespace Cert.Ctc

open Idealize.ShloMosaic

variable {α : Type}

/-- The dimension numbers of a gather along the lanes. -/
abbrev laneDims (B N R : Nat)
    (wf : GatherDims.WF ⟨2, ![B, N]⟩ ⟨3, ![B, R, 1]⟩ ⟨2, ![B, R]⟩ [] [1] [0] [1] [0] 2 ![1, 1]) :
    GatherDims ⟨2, ![B, N]⟩ ⟨3, ![B, R, 1]⟩ ⟨2, ![B, R]⟩ where
  offsetDims := []
  collapsedSliceDims := [1]
  operandBatchingDims := [0]
  startIndicesBatchingDims := [0]
  startIndexMap := [1]
  indexVectorDim := 2
  sliceSizes := ![1, 1]
  wf := wf

/-- It reads the operand's row at the index read signed and clamped. -/
theorem gather_lanes {B N R w : Nat} (hN : 0 < N)
    (wf : GatherDims.WF ⟨2, ![B, N]⟩ ⟨3, ![B, R, 1]⟩ ⟨2, ![B, R]⟩ [] [1] [0] [1] [0] 2 ![1, 1])
    (x : (⟨2, ![B, N]⟩ : Shape).Idx → α) (idx : IVec ⟨3, ![B, R, 1]⟩ w) (b : Fin B) (k : Fin R) :
    Host.gather (laneDims B N R wf) x idx (ix2 b k) = x (ix2 b ⟨min (idx (ix3 b k 0)).toInt.toNat (N - 1), by omega⟩) := by
  unfold Host.gather
  congr 1
  funext a
  refine Fin.ext ?_
  show (laneDims B N R wf).start (ix2 b k) idx a + (laneDims B N R wf).batchCoord (ix2 b k) a
      + (laneDims B N R wf).offCoord (ix2 b k) a = _
  have h01 : a = 1 ∨ a = 0 := by
    match a with
    | ⟨0, _⟩ => exact Or.inr rfl
    | ⟨1, _⟩ => exact Or.inl rfl
  rcases h01 with rfl | rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (laneDims B N R wf).startIndexMap from List.mem_singleton.mpr rfl)]
    have hsi : (laneDims B N R wf).siIdx (ix2 b k) ⟨List.idxOf (1 : Fin 2) (laneDims B N R wf).startIndexMap,
        List.idxOf_lt_length_iff.2 (List.mem_singleton.mpr rfl)⟩ = ix3 b k 0 := by
      funext c; refine Fin.ext ?_
      match c with
      | ⟨0, _⟩ => rfl
      | ⟨1, _⟩ => rfl
      | ⟨2, _⟩ => rfl
    rw [hsi]
    rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl

end Cert.Ctc

end
-- ==== Proof.RefStep.lean ====
/- One step of the reference's recursion over the extended reals. -/
module

public import proofs.«01_k».proof.Proof.Gen.ReferenceIdeal.Step
public import proofs.«01_k».proof.Proof.Reals
public import proofs.«01_k».proof.Proof.Sweep
public import proofs.«01_k».proof.Proof.Gather
public import Idealize.ShloMosaic.Lib.Pointwise

@[expose] public section

noncomputable section

namespace Cert.ReferenceIdeal.Rec

open Cert.ReferenceIdeal Cert.ReferenceIdeal.Gen Cert.ReferenceIdeal.Step Cert.Ctc
open Idealize.ShloMosaic Idealize.ShloMosaic.TcCoe Idealize.ShloMosaic.Tactic

variable (j : ℕ) (s : State Ideal)

theorem ninf : Ideal.ofBits .f32 4286578688#32 = (⊥ : EReal) := by
  simp [Ideal.ofBits, Ideal.ieee]

theorem b5_apply (b : Fin 16) (k : Fin 513) :
    b5 j s (ix2 b k) = if h : k.val = 0 then (⊥ : EReal) else s.main_v22_6 (ix2 b ⟨k.val - 1, by omega⟩) := by
  pointwise [b5, b4, b3, b2]
  simp only [Nat.lt_one_iff, ninf]

theorem b9_apply (b : Fin 16) (k : Fin 513) :
    b9 j s (ix2 b k) = if h : k.val < 2 then (⊥ : EReal) else s.main_v22_6 (ix2 b ⟨k.val - 2, by omega⟩) := by
  pointwise [b9, b8, b7, b6]
  simp only [ninf]

theorem b13_apply (b : Fin 16) (k : Fin 513) :
    b13 j s (ix2 b k) = if s.main_v22_0 (ix2 b k) = 1#1 then b9 j s (ix2 b k) else (⊥ : EReal) := by
  pointwise [b13, b12, b11, b10]
  rw [ninf]; rfl

theorem b23_apply (b : Fin 16) (k : Fin 513) :
    b23 j s (ix2 b k) = (max (s.main_v22_6 (ix2 b k)) (b5 j s (ix2 b k)) +
      Ideal.log (1 + Ideal.exp (-(max (s.main_v22_6 (ix2 b k) - b5 j s (ix2 b k)) (-(s.main_v22_6 (ix2 b k) - b5 j s (ix2 b k)))))) : EReal) := by
  pointwise [b23, b22, b21, b20, b19, b18, b17, b16, b15, b14]
  rw [if_neg (fun h => h rfl)]
  rfl

theorem b33_apply (b : Fin 16) (k : Fin 513) :
    b33 j s (ix2 b k) = (max (b23 j s (ix2 b k)) (b13 j s (ix2 b k)) +
      Ideal.log (1 + Ideal.exp (-(max (b23 j s (ix2 b k) - b13 j s (ix2 b k)) (-(b23 j s (ix2 b k) - b13 j s (ix2 b k)))))) : EReal) := by
  pointwise [b33, b32, b31, b30, b29, b28, b27, b26, b25, b24]
  rw [if_neg (fun h => h rfl)]
  rfl

theorem b43_apply (b : Fin 16) (v : Fin 64) :
    b43 j s (ix2 b v) = b42 j s (ix3 b 0 v) := by
  pointwise [b43]

theorem b51_apply (b : Fin 16) (k : Fin 513) :
    b51 j s (ix3 b k 0) = if IntOp.cmpi .slt (s.main_v22_2 (ix2 b k)) 0#32 = 1#1 then s.main_v22_2 (ix2 b k) + 64#32 else s.main_v22_2 (ix2 b k) := by
  pointwise [b51, b50, b49, b48, b47, b46, b45, b44]
  rfl

theorem b58_apply (b : Fin 16) (k : Fin 513) :
    b58 j s (ix2 b k) = IntOp.cmpi .slt (s.main_v22_5 ix0) (s.main_v22_3 (ix1 b)) := by
  pointwise [b58, b57, b56, b55, b54]
  rfl

theorem b59_apply (b : Fin 16) (k : Fin 513) :
    b59 j s (ix2 b k) = if b58 j s (ix2 b k) = 1#1 then (b33 j s (ix2 b k) + b52 j s (ix2 b k) : EReal) else s.main_v22_6 (ix2 b k) := by
  pointwise [b59, b53]
  rfl

end Cert.ReferenceIdeal.Rec

end
-- ==== Proof.RefValue.lean ====
/- What the reference computes: the negative logarithm of the total probability. -/
module

public import proofs.«01_k».proof.Proof.RefStep
public import proofs.«01_k».proof.Proof.Model
public import proofs.«01_k».proof.Proof.Words
public import Idealize.ShloMosaic.PureOps.Reduce
public import Idealize.ShloMosaic.PureOps.Ideal.Laws

@[expose] public section

noncomputable section

namespace Cert.ReferenceIdeal.Rec

open Cert.ReferenceIdeal Cert.ReferenceIdeal.Gen Cert.ReferenceIdeal.Step Cert.Ctc
open Idealize.ShloMosaic Idealize.ShloMosaic.TcCoe Idealize.ShloMosaic.Tactic

/-- The arguments hold the numbers. -/
structure Args (D : Data) (x0 : (⟨S16x2048x64, .f32⟩ : BufTy).Contents (Elt Ideal)) (x1 : (⟨S16x256, .i32⟩ : BufTy).Contents (Elt Ideal))
    (x2 x3 : (⟨S16, .i32⟩ : BufTy).Contents (Elt Ideal)) : Prop where
  logit : ∀ (b : Fin 16) (t : Fin 2048) (v : Fin 64), x0 (ix3 b t v) = ((D.a b t v : ℝ) : EReal)
  target : ∀ (b : Fin 16) (u : Fin 256), x1 (ix2 b u) = BitVec.ofNat 32 (D.tg b u).val
  length : ∀ b : Fin 16, x2 (ix1 b) = BitVec.ofNat 32 (D.len b)
  tlength : ∀ b : Fin 16, x3 (ix1 b) = BitVec.ofNat 32 (D.tl b)

/-- The state before a step holds the numbers. -/
structure Holds (D : Data) (j : ℕ) (s : State Ideal) : Prop where
  count : s.main_v22_5 ix0 = BitVec.ofNat 32 (j + 1)
  alpha : ∀ (b : Fin 16) (k : Fin 513), s.main_v22_6 (ix2 b k) = L (D.ex b j k)
  skip : ∀ (b : Fin 16) (k : Fin 513), (s.main_v22_0 (ix2 b k) = 1#1 ↔ D.may b k)
  logp : ∀ (b : Fin 16) (t : Fin 2048) (v : Fin 64), s.main_v22_1 (ix3 b t v) = ((D.lp b t v : ℝ) : EReal)
  label : ∀ (b : Fin 16) (k : Fin 513), s.main_v22_2 (ix2 b k) = BitVec.ofNat 32 (D.lab b k).val
  length : ∀ b : Fin 16, s.main_v22_3 (ix1 b) = BitVec.ofNat 32 (D.len b)

variable {D : Data} {j : ℕ} {s : State Ideal}

/-- A frame of an array, cut out at a start inside it. -/
theorem frame_apply (x : S16x2048x64.Idx → EReal) (st : Fin 3 → ℤ) (h : S16x2048x64.Slices (fun _ => 0) S16x1x64) (b : Fin 16) (v : Fin 64)
    (t : ℕ) (ht : t < 2048) (h0 : st 0 = 0) (h1 : st 1 = (t : ℤ)) (h2 : st 2 = 0) :
    Host.dynamicSlice S16x1x64 x st h (ix3 b 0 v) = x (ix3 b ⟨t, ht⟩ v) := by
  have c0 : Host.clampedStart S16x2048x64 S16x1x64 rfl st 0 = 0 := Host.clampedStart_of_le _ _ 0 0 h0 (by decide)
  have c1 : Host.clampedStart S16x2048x64 S16x1x64 rfl st 1 = t := Host.clampedStart_of_le _ _ 1 t h1 (by show t + 1 ≤ 2048; omega)
  have c2 : Host.clampedStart S16x2048x64 S16x1x64 rfl st 2 = 0 := Host.clampedStart_of_le _ _ 2 0 h2 (by decide)
  pointwise
  simp only [c0, c1, c2, Nat.zero_add]

theorem slice_apply (h : Holds D j s) (hj : j + 1 < 2048) (b : Fin 16) (v : Fin 64) :
    b42 j s (ix3 b 0 v) = ((D.lp b (j + 1) v : ℝ) : EReal) := by
  have h39 : b39 j s ix0 = BitVec.ofNat 32 (j + 1) := by
    have : b39 j s ix0 = if IntOp.cmpi .slt (s.main_v22_5 ix0) 0#32 = 1#1 then s.main_v22_5 ix0 + 2048#32 else s.main_v22_5 ix0 := rfl
    rw [this, h.count, if_neg]
    rw [slt_ofNat (n := 0) (by omega) (by omega)]; omega
  have e1 : (b39 j s (Shape.Idx.first h_S_)).toInt = ((j + 1 : ℕ) : ℤ) := by
    rw [show Shape.Idx.first h_S_ = ix0 from funext fun a => a.elim0, h39, toInt_ofNat (by omega)]
  rw [← h.logp b ⟨j + 1, hj⟩ v]
  unfold b42
  exact frame_apply _ _ _ b v (j + 1) hj rfl e1 rfl

theorem gather_apply (h : Holds D j s) (hj : j + 1 < 2048) (b : Fin 16) (k : Fin 513) :
    b52 j s (ix2 b k) = ((Real.log (D.pr b (j + 1) k) : ℝ) : EReal) := by
  have e : b52 j s (ix2 b k) = b43 j s (ix2 b ⟨min (b51 j s (ix3 b k 0)).toInt.toNat (64 - 1), by omega⟩) := by
    unfold b52
    exact gather_lanes (by omega) _ _ _ b k
  have hl := (D.lab b k).isLt
  rw [e, b43_apply, slice_apply h hj]
  unfold Data.pr
  rw [Real.log_exp]
  refine congrArg (fun v => ((D.lp b (j + 1) v : ℝ) : EReal)) (Fin.ext ?_)
  show min (b51 j s (ix3 b k 0)).toInt.toNat (64 - 1) = _
  rw [b51_apply, h.label, if_neg (by rw [slt_ofNat (n := 0) (by omega) (by omega)]; omega), toInt_ofNat (by omega)]
  omega

/-- One step of the recursion. -/
theorem holds_step (h : Holds D j s) (hj : j + 1 < 2048) (hlen : ∀ b, D.len b ≤ 2048) : Holds D (j + 1) (step j s) := by
  refine ⟨?_, ?_, h.skip, h.logp, h.label, h.length⟩
  · rw [step_main_v22_5]
    show s.main_v22_5 ix0 + 1#32 = _
    rw [h.count, ← BitVec.ofNat_add]
  · intro b k
    rw [step_main_v22_6, b59_apply, b58_apply, h.count, h.length, gather_apply h hj, h.alpha]
    have hl := hlen b
    have nx := D.ex_nonneg b j
    have hex : ∀ k, D.ex b (j + 1) k = if j + 1 < D.len b then (D.ex b j k + right (D.ex b j) k + D.al b k * right (right (D.ex b j)) k) * D.pr b (j + 1) k else D.ex b j k :=
      fun k => ext_succ _ _ _ _ _ _
    rw [hex]
    by_cases ht : j + 1 < D.len b
    · rw [if_pos ((slt_ofNat (by omega) (by omega)).mpr ht), if_pos ht]
      have h5 : b5 j s (ix2 b k) = L (right (D.ex b j) k) := by
        rw [b5_apply]
        obtain ⟨k, hk⟩ := k
        rcases k with _ | k
        · rw [dif_pos rfl]; exact L_zero.symm
        · rw [dif_neg (Nat.succ_ne_zero k)]; exact h.alpha b _
      have h9 : b9 j s (ix2 b k) = L (right (right (D.ex b j)) k) := by
        rw [b9_apply]
        obtain ⟨k, hk⟩ := k
        rcases k with _ | _ | k
        · rw [dif_pos (by norm_num)]; exact L_zero.symm
        · rw [dif_pos (by norm_num)]; exact L_zero.symm
        · rw [dif_neg (by simp)]; exact h.alpha b _
      have h13 : b13 j s (ix2 b k) = L (D.al b k * right (right (D.ex b j)) k) := by
        rw [b13_apply, h9]
        unfold Data.al
        by_cases hm : D.may b k
        · rw [if_pos ((h.skip b k).mpr hm), if_pos hm, one_mul]
        · rw [if_neg (fun c => hm ((h.skip b k).mp c)), if_neg hm, zero_mul, L_zero]
      have n1 := right_nonneg nx k.val
      have n2 := right_nonneg (right_nonneg nx) k.val
      rw [b33_apply, b23_apply, h5, h13, h.alpha, logaddexp (nx k) n1,
        logaddexp (add_nonneg (nx k) n1) (mul_nonneg (D.al_nonneg b k) n2), L_add_coe, Real.exp_log (D.pr_pos b (j + 1) k)]
      exact add_nonneg (add_nonneg (nx k) n1) (mul_nonneg (D.al_nonneg b k) n2)
    · rw [if_neg (fun c => ht ((slt_ofNat (by omega) (by omega)).mp c)), if_neg ht]

/-- All steps. -/
theorem holds_all (hlen : ∀ b, D.len b ≤ 2048) (it : ℕ → State Ideal) (h0 : Holds D 0 (it 0)) (hs : ∀ n, it (n + 1) = step n (it n)) :
    ∀ n, n < 2048 → Holds D n (it n)
  | 0, _ => h0
  | n + 1, hn => by rw [hs]; exact holds_step (holds_all hlen it h0 hs n (by omega)) hn hlen

end Cert.ReferenceIdeal.Rec

end
-- ==== Proof.Result.lean ====
/- What the kernel's run leaves in its result: minus the logarithm of each row's total probability. -/
module

public import proofs.«01_k».proof.Proof.Launched
public import proofs.«01_k».proof.Proof.Stored
public import proofs.«01_k».proof.Proof.RefValue
public import Idealize.ShloMosaic.Lib.Pipeline.ValueKit
public import Idealize.ShloMosaic.Lib.StableHlo.ReadAt
public import Idealize.ShloMosaic.Lib.WritesUnit

@[expose] public section

noncomputable section

namespace Cert.KernelIdeal.Launched

open Cert.KernelIdeal Cert.KernelIdeal.Gen
open Cert.Ctc
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-- The lengths, as the region finds them: reshaped to a column. -/
theorem lengths (b : Fin 16) : V m c main_v0 (ix2 b 0) = m ((c : Thread nD τ).loc main_arg2) (ix1 b) := by
  unfold V
  after_reads_at

theorem tlengths (b : Fin 16) : V m c main_v1 (ix2 b 0) = m ((c : Thread nD τ).loc main_arg3) (ix1 b) := by
  unfold V
  after_reads_at

theorem at_arg0 (t : Fin cfg0.N) (i : S16x2048x64.Idx) : (win0_0.blk t).view.emb i = i := by
  funext a
  exact Fin.ext (win0_0.rect_emb_val_of_index_zero t a ((by decide : ∀ t a, win0_0.index t a = 0) t a) i)

theorem at_arg1 (t : Fin cfg0.N) (i : S16x256.Idx) : (win0_1.blk t).view.emb i = i := by
  funext a
  exact Fin.ext (win0_1.rect_emb_val_of_index_zero t a ((by decide : ∀ t a, win0_1.index t a = 0) t a) i)

theorem at_arg2 (t : Fin cfg0.N) (i : S16x1.Idx) : (win0_2.blk t).view.emb i = i := by
  funext a
  exact Fin.ext (win0_2.rect_emb_val_of_index_zero t a ((by decide : ∀ t a, win0_2.index t a = 0) t a) i)

theorem at_arg3 (t : Fin cfg0.N) (i : S16x1.Idx) : (win0_3.blk t).view.emb i = i := by
  funext a
  exact Fin.ext (win0_3.rect_emb_val_of_index_zero t a ((by decide : ∀ t a, win0_3.index t a = 0) t a) i)

theorem block0 (t : Fin cfg0.N) (i : S16x2048x64.Idx) : iblk m c 0 t i = m ((c : Thread nD τ).loc main_arg0) i :=
  (congrArg (V m c main_arg0) (at_arg0 t i)).trans (congrFun (V_main_arg0 m c) i)

theorem block1 (t : Fin cfg0.N) (i : S16x256.Idx) : iblk m c 1 t i = m ((c : Thread nD τ).loc main_arg1) i :=
  (congrArg (V m c main_arg1) (at_arg1 t i)).trans (congrFun (V_main_arg1 m c) i)

theorem block2 (t : Fin cfg0.N) (b : Fin 16) : iblk m c 2 t (ix2 b 0) = m ((c : Thread nD τ).loc main_arg2) (ix1 b) :=
  (congrArg (V m c main_v0) (at_arg2 t (ix2 b 0))).trans (lengths m c b)

theorem block3 (t : Fin cfg0.N) (b : Fin 16) : iblk m c 3 t (ix2 b 0) = m ((c : Thread nD τ).loc main_arg3) (ix1 b) :=
  (congrArg (V m c main_v1) (at_arg3 t (ix2 b 0))).trans (tlengths m c b)

/-- The grid's only point. -/
abbrev point : Fin cfg0.N := ⟨0, by decide⟩

theorem array (i : S16x128.Idx) : (dats m 0 c).arrAt 4 (cfgs 0).N i = out m c point i := by
  refine ((dats m 0 c).arrAt_emb_eq_after_last 4 point (by decide +kernel) i).trans ?_
  blk_simp
  rw [after_4]

theorem result (b : Fin 16) : Pipeline.afterTail₀ cfgs (dats m) 0 (V0 m) [hostOps1] c main_v4 (ix1 b) = (dats m 0 c).arrAt 4 (cfgs 0).N (ix2 b 0) := by
  unfold Pipeline.afterTail₀
  after_reads_at
  exact congrFun (Pipeline.withArrays_arr (cfgs 0).spec (by decide) c (V0 m c) (fun w => (dats m 0 c).arrAt w (cfgs 0).N) 4) (ix2 b 0)

section

variable {D : Data} (h : Cert.ReferenceIdeal.Rec.Args D (m ((c : Thread nD τ).loc main_arg0)) (m ((c : Thread nD τ).loc main_arg1)) (m ((c : Thread nD τ).loc main_arg2))
  (m ((c : Thread nD τ).loc main_arg3)))

include h

theorem reads (t : Fin cfg0.N) : KernelValue.Reads D (win0_0.stage (cfg0.slots t 0)) (win0_1.stage (cfg0.slots t 1)) (win0_2.stage (cfg0.slots t 2)) (win0_3.stage (cfg0.slots t 3))
    (iblk m c 0 t) (iblk m c 1 t) (iblk m c 2 t) (iblk m c 3 t) where
  logit b s v := (block0 m c t (ix3 b s v)).trans (h.logit b s v)
  target b u := (block1 m c t (ix2 b u)).trans (h.target b u)
  length b := (block2 m c t b).trans (h.length b)
  tlength b := (block3 m c t b).trans (h.tlength b)

theorem out_value (hD : D.Ok) (t : Fin cfg0.N) (b : Fin 16) (j : Fin 128) : out m c t (ix2 b j) = -(L (D.total b)) := by
  unfold out pieces
  rw [KernelValue.stored_eq]
  exact (View.read_writes_cons_unit_of_mem _ _ _ _ [] (ix2 b j) (ix2 b j) rfl fun a => by fin_cases a <;> exact (Nat.zero_add _).symm).trans
    (KernelValue.stored_value c _ _ _ _ _ _ _ _ _ _ _ _ _ _ _ _ _ _ _ _ hD (reads m c h t) b j)

end

/-- The kernel's result, once it has run: minus the logarithm of each row's total probability; its arguments are as they were. -/
theorem run_value (D : Dev nD → Data) (hD : ∀ c, (D c).Ok)
    (h : ∀ c : Dev nD, Cert.ReferenceIdeal.Rec.Args (D c) (m ((c : Thread nD τ).loc main_arg0)) (m ((c : Thread nD τ).loc main_arg1)) (m ((c : Thread nD τ).loc main_arg2))
      (m ((c : Thread nD τ).loc main_arg3))) :
    θ_run defs (onTc (τ := τ) (main (F := Ideal))) ⟨m, fun _ => 0, ρ⟩ (fun r => ∀ c : Dev nD,
      r.2.mem ((c.tc : Thread nD τ).loc main_v4) = (fun i : S16.Idx => -(L ((D c).total (i 0))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ r c => ⟨((r.1 c).2 main_v4 (Pipeline.mem_restRefs_of main_v4 (by decide) (by decide))).trans (funext fun i => by
        rw [eq_ix1 i]
        exact (result m c (i 0)).trans ((array m c (ix2 (i 0) 0)).trans (out_value m c (h c) (hD c) point (i 0) 0))),
      ((r.1 c).1 0).trans (((dats m 0 c).arrAt_in 0 rfl _).trans ((A_eq m c 0).trans (V_main_arg0 m c))),
      ((r.1 c).1 1).trans (((dats m 0 c).arrAt_in 1 rfl _).trans ((A_eq m c 1).trans (V_main_arg1 m c))),
      (((r.1 c).2 main_arg2 (Pipeline.mem_restRefs_of main_arg2 (by decide) (by decide))).trans (W_main_arg2 m (dats m) c)),
      (((r.1 c).2 main_arg3 (Pipeline.mem_restRefs_of main_arg3 (by decide) (by decide))).trans (W_main_arg3 m (dats m) c))⟩) (run_main m ρ)

end Cert.KernelIdeal.Launched

end
-- ==== Proof.RefTrip.lean ====
/- The reference's loop, one trip: at a valuation that holds a state every value of the trip is the step's, so that one trip
   leaves the next state. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v22_5) = s.main_v22_5
  f_6 : V0 (Proc.devRef .tc main_v22_6) = s.main_v22_6
  f_0 : V0 (Proc.devRef .tc main_v22_0) = s.main_v22_0
  f_1 : V0 (Proc.devRef .tc main_v22_1) = s.main_v22_1
  f_2 : V0 (Proc.devRef .tc main_v22_2) = s.main_v22_2
  f_3 : V0 (Proc.devRef .tc main_v22_3) = s.main_v22_3
  n_4 : V0 (Proc.devRef .tc main_v22_4) = constantI S_ 32 (BitVec.ofNat 32 j)

variable {V0 s j}

set_option maxRecDepth 8192 in
theorem al_0 (h : Holds V0 s j) : (constantI S_ 32 1#32 : (Proc.devRef .tc main_while0b_c_17 : DevRef τ sig).ty.Contents (Elt F)) = Cert.ReferenceIdeal.Step.b0 j s := by
  unfold Cert.ReferenceIdeal.Step.b0
  rfl
set_option maxRecDepth 8192 in
theorem al_1 (h : Holds V0 s j) : (addi (V0 (Proc.devRef .tc main_v22_5)) (constantI S_ 32 1#32) : (Proc.devRef .tc main_while0b_v48 : DevRef τ sig).ty.Contents (Elt F)) = Cert.ReferenceIdeal.Step.b1 j s := by
  unfold Cert.ReferenceIdeal.Step.b1
  rw [← al_0 h, h.f_5]
  try rfl
set_option maxRecDepth 8192 in
theorem al_2 (h : Holds V0 s j) : (constant S_ .f32 0xFF800000#32 : (Proc.devRef .tc main_while0b_cst_18 : DevRef τ sig).ty.Contents (Elt F)) = Cert.ReferenceIdeal.Step.b2 j s := by
  unfold Cert.ReferenceIdeal.Step.b2
  rfl
set_option maxRecDepth 8192 in
theorem al_3 (h : Holds V0 s j) : (broadcastInDim S16x1 ![] bcast_S_S16x1 (constant S_ .f32 0xFF800000#32) : (Proc.devRef .tc main_while0b_v49 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (extractStridedSlice S16x512 ![0, 0] (V0 (Proc.devRef .tc main_v22_6)) slices_S16x513_S16x512_0_0 : (Proc.devRef .tc main_while0b_v50 : DevRef τ sig).ty.Contents (Elt F)) = Cert.ReferenceIdeal.Step.b4 j s := by
  unfold Cert.ReferenceIdeal.Step.b4
  rw [h.f_6]
  try rfl
set_option maxRecDepth 8192 in
theorem al_5 (h : Holds V0 s j) : (res_main_while0b_v51 V0 : (Proc.devRef .tc main_while0b_v51 : DevRef τ sig).ty.Contents (Elt F)) = Cert.ReferenceIdeal.Step.b5 j s := by
  unfold res_main_while0b_v51 Cert.ReferenceIdeal.Step.b5
  rw [← al_3 h, ← al_4 h]
  try rfl
set_option maxRecDepth 8192 in
theorem al_6 (h : Holds V0 s j) : (constant S_ .f32 0xFF800000#32 : (Proc.devRef .tc main_while0b_cst_19 : DevRef τ sig).ty.Contents (Elt F)) = Cert.ReferenceIdeal.Step.b6 j s := by
  unfold Cert.ReferenceIdeal.Step.b6
  rfl
set_option maxRecDepth 8192 in
theorem al_7 (h : Holds V0 s j) : (broadcastInDim S16x2 ![] bcast_S_S16x2 (constant S_ .f32 0xFF800000#32) : (Proc.devRef .tc main_while0b_v52 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (extractStridedSlice S16x511 ![0, 0] (V0 (Proc.devRef .tc main_v22_6)) slices_S16x513_S16x511_0_0 : (Proc.devRef .tc main_while0b_v53 : DevRef τ sig).ty.Contents (Elt F)) = Cert.ReferenceIdeal.Step.b8 j s := by
  unfold Cert.ReferenceIdeal.Step.b8
  rw [h.f_6]
  try rfl
set_option maxRecDepth 8192 in
theorem al_9 (h : Holds V0 s j) : (concatenate S16x513 1 [⟨S16x2, (broadcastInDim S16x2 ![] bcast_S_S16x2 (constant S_ .f32 0xFF800000#32))⟩, ⟨S16x511, (extractStridedSlice S16x511 ![0, 0] (V0 (Proc.devRef .tc main_v22_6)) slices_S16x513_S16x511_0_0)⟩] concatenates_S16x2_S16x511_S16x513_d1 : (Proc.devRef .tc main_while0b_v54 : DevRef τ sig).ty.Contents (Elt F)) = Cert.ReferenceIdeal.Step.b9 j s := by
  unfold Cert.ReferenceIdeal.Step.b9
  rw [← al_7 h, ← al_8 h]
  try rfl
set_option maxRecDepth 8192 in
theorem al_10 (h : Holds V0 s j) : (constant S_ .f32 0xFF800000#32 : (Proc.devRef .tc main_while0b_cst_20 : DevRef τ sig).ty.Contents (Elt F)) = Cert.ReferenceIdeal.Step.b10 j s := by
  unfold Cert.ReferenceIdeal.Step.b10
  rfl
set_option maxRecDepth 8192 in
theorem al_11 (h : Holds V0 s j) : (id (constant S_ .f32 0xFF800000#32) : (Proc.devRef .tc main_while0b_call3_v0 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (broadcastInDim S16x513 ![] bcast_S_S16x513 (id (constant S_ .f32 0xFF800000#32)) : (Proc.devRef .tc main_while0b_call3_v1 : DevRef τ sig).ty.Contents (Elt F)) = Cert.ReferenceIdeal.Step.b12 j s := by
  unfold Cert.ReferenceIdeal.Step.b12
  rw [← al_11 h]
  try rfl
set_option maxRecDepth 8192 in
theorem al_13 (h : Holds V0 s j) : (res_main_while0b_v55 V0 : (Proc.devRef .tc main_while0b_v55 : DevRef τ sig).ty.Contents (Elt F)) = Cert.ReferenceIdeal.Step.b13 j s := by
  unfold res_main_while0b_v55 Cert.ReferenceIdeal.Step.b13
  rw [← al_9 h, ← al_12 h, h.f_0]
  try rfl
set_option maxRecDepth 8192 in
theorem al_14 (h : Holds V0 s j) : (maximumf (V0 (Proc.devRef .tc main_v22_6)) (res_main_while0b_v51 V0) : (Proc.devRef .tc main_while0b_v56 : DevRef τ sig).ty.Contents (Elt F)) = Cert.ReferenceIdeal.Step.b14 j s := by
  unfold Cert.ReferenceIdeal.Step.b14
  rw [← al_5 h, h.f_6]
  try rfl
set_option maxRecDepth 8192 in
theorem al_15 (h : Holds V0 s j) : (res_main_while0b_v57 V0 : (Proc.devRef .tc main_while0b_v57 : DevRef τ sig).ty.Contents (Elt F)) = Cert.ReferenceIdeal.Step.b15 j s := by
  unfold res_main_while0b_v57 Cert.ReferenceIdeal.Step.b15
  rw [← al_5 h, h.f_6]
  try rfl
set_option maxRecDepth 8192 in
theorem al_16 (h : Holds V0 s j) : (cmpf .une (res_main_while0b_v57 V0) (res_main_while0b_v57 V0) : (Proc.devRef .tc main_while0b_v58 : DevRef τ sig).ty.Contents (Elt F)) = Cert.ReferenceIdeal.Step.b16 j s := by
  unfold Cert.ReferenceIdeal.Step.b16
  rw [← al_15 h]
  try rfl
set_option maxRecDepth 8192 in
theorem al_17 (h : Holds V0 s j) : (addf (V0 (Proc.devRef .tc main_v22_6)) (res_main_while0b_v51 V0) : (Proc.devRef .tc main_while0b_v59 : DevRef τ sig).ty.Contents (Elt F)) = Cert.ReferenceIdeal.Step.b17 j s := by
  unfold Cert.ReferenceIdeal.Step.b17
  rw [← al_5 h, h.f_6]
  try rfl
set_option maxRecDepth 8192 in
theorem al_18 (h : Holds V0 s j) : (Host.absf (res_main_while0b_v57 V0) : (Proc.devRef .tc main_while0b_v60 : DevRef τ sig).ty.Contents (Elt F)) = Cert.ReferenceIdeal.Step.b18 j s := by
  unfold Cert.ReferenceIdeal.Step.b18
  rw [← al_15 h]
  try rfl
set_option maxRecDepth 8192 in
theorem al_19 (h : Holds V0 s j) : (Host.negf (Host.absf (res_main_while0b_v57 V0)) : (Proc.devRef .tc main_while0b_v61 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (Host.exp (Host.negf (Host.absf (res_main_while0b_v57 V0))) : (Proc.devRef .tc main_while0b_v62 : DevRef τ sig).ty.Contents (Elt F)) = Cert.ReferenceIdeal.Step.b20 j s := by
  unfold Cert.ReferenceIdeal.Step.b20
  rw [← al_19 h]
  try rfl
set_option maxRecDepth 8192 in
theorem al_21 (h : Holds V0 s j) : (Host.log1p (Host.exp (Host.negf (Host.absf (res_main_while0b_v57 V0)))) : (Proc.devRef .tc main_while0b_v63 : DevRef τ sig).ty.Contents (Elt F)) = Cert.ReferenceIdeal.Step.b21 j s := by
  unfold Cert.ReferenceIdeal.Step.b21
  rw [← al_20 h]
  try rfl
set_option maxRecDepth 8192 in
theorem al_22 (h : Holds V0 s j) : (addf (maximumf (V0 (Proc.devRef .tc main_v22_6)) (res_main_while0b_v51 V0)) (Host.log1p (Host.exp (Host.negf (Host.absf (res_main_while0b_v57 V0))))) : (Proc.devRef .tc main_while0b_v64 : DevRef τ sig).ty.Contents (Elt F)) = Cert.ReferenceIdeal.Step.b22 j s := by
  unfold Cert.ReferenceIdeal.Step.b22
  rw [← al_14 h, ← al_21 h]
  try rfl
set_option maxRecDepth 8192 in
theorem al_23 (h : Holds V0 s j) : (res_main_while0b_v65 V0 : (Proc.devRef .tc main_while0b_v65 : DevRef τ sig).ty.Contents (Elt F)) = Cert.ReferenceIdeal.Step.b23 j s := by
  unfold res_main_while0b_v65 Cert.ReferenceIdeal.Step.b23
  rw [← al_16 h, ← al_17 h, ← al_22 h]
  try rfl
set_option maxRecDepth 8192 in
theorem al_24 (h : Holds V0 s j) : (maximumf (res_main_while0b_v65 V0) (res_main_while0b_v55 V0) : (Proc.devRef .tc main_while0b_v66 : DevRef τ sig).ty.Contents (Elt F)) = Cert.ReferenceIdeal.Step.b24 j s := by
  unfold Cert.ReferenceIdeal.Step.b24
  rw [← al_23 h, ← al_13 h]
  try rfl
set_option maxRecDepth 8192 in
theorem al_25 (h : Holds V0 s j) : (res_main_while0b_v67 V0 : (Proc.devRef .tc main_while0b_v67 : DevRef τ sig).ty.Contents (Elt F)) = Cert.ReferenceIdeal.Step.b25 j s := by
  unfold res_main_while0b_v67 Cert.ReferenceIdeal.Step.b25
  rw [← al_23 h, ← al_13 h]
  try rfl
set_option maxRecDepth 8192 in
theorem al_26 (h : Holds V0 s j) : (cmpf .une (res_main_while0b_v67 V0) (res_main_while0b_v67 V0) : (Proc.devRef .tc main_while0b_v68 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (addf (res_main_while0b_v65 V0) (res_main_while0b_v55 V0) : (Proc.devRef .tc main_while0b_v69 : DevRef τ sig).ty.Contents (Elt F)) = Cert.ReferenceIdeal.Step.b27 j s := by
  unfold Cert.ReferenceIdeal.Step.b27
  rw [← al_23 h, ← al_13 h]
  try rfl
set_option maxRecDepth 8192 in
theorem al_28 (h : Holds V0 s j) : (Host.absf (res_main_while0b_v67 V0) : (Proc.devRef .tc main_while0b_v70 : DevRef τ sig).ty.Contents (Elt F)) = Cert.ReferenceIdeal.Step.b28 j s := by
  unfold Cert.ReferenceIdeal.Step.b28
  rw [← al_25 h]
  try rfl
set_option maxRecDepth 8192 in
theorem al_29 (h : Holds V0 s j) : (Host.negf (Host.absf (res_main_while0b_v67 V0)) : (Proc.devRef .tc main_while0b_v71 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (Host.exp (Host.negf (Host.absf (res_main_while0b_v67 V0))) : (Proc.devRef .tc main_while0b_v72 : DevRef τ sig).ty.Contents (Elt F)) = Cert.ReferenceIdeal.Step.b30 j s := by
  unfold Cert.ReferenceIdeal.Step.b30
  rw [← al_29 h]
  try rfl
set_option maxRecDepth 8192 in
theorem al_31 (h : Holds V0 s j) : (Host.log1p (Host.exp (Host.negf (Host.absf (res_main_while0b_v67 V0)))) : (Proc.devRef .tc main_while0b_v73 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (addf (maximumf (res_main_while0b_v65 V0) (res_main_while0b_v55 V0)) (Host.log1p (Host.exp (Host.negf (Host.absf (res_main_while0b_v67 V0))))) : (Proc.devRef .tc main_while0b_v74 : DevRef τ sig).ty.Contents (Elt F)) = Cert.ReferenceIdeal.Step.b32 j s := by
  unfold Cert.ReferenceIdeal.Step.b32
  rw [← al_24 h, ← al_31 h]
  try rfl
set_option maxRecDepth 8192 in
theorem al_33 (h : Holds V0 s j) : (select (cmpf .une (res_main_while0b_v67 V0) (res_main_while0b_v67 V0)) (addf (res_main_while0b_v65 V0) (res_main_while0b_v55 V0)) (addf (maximumf (res_main_while0b_v65 V0) (res_main_while0b_v55 V0)) (Host.log1p (Host.exp (Host.negf (Host.absf (res_main_while0b_v67 V0)))))) : (Proc.devRef .tc main_while0b_v75 : DevRef τ sig).ty.Contents (Elt F)) = Cert.ReferenceIdeal.Step.b33 j s := by
  unfold Cert.ReferenceIdeal.Step.b33
  rw [← al_26 h, ← al_27 h, ← al_32 h]
  try rfl
set_option maxRecDepth 8192 in
theorem al_34 (h : Holds V0 s j) : (constantI S_ 32 0#32 : (Proc.devRef .tc main_while0b_call4_c : DevRef τ sig).ty.Contents (Elt F)) = Cert.ReferenceIdeal.Step.b34 j s := by
  unfold Cert.ReferenceIdeal.Step.b34
  rfl
set_option maxRecDepth 8192 in
theorem al_35 (h : Holds V0 s j) : (cmpi .slt (V0 (Proc.devRef .tc main_v22_5)) (constantI S_ 32 0#32) : (Proc.devRef .tc main_while0b_call4_v0 : DevRef τ sig).ty.Contents (Elt F)) = Cert.ReferenceIdeal.Step.b35 j s := by
  unfold Cert.ReferenceIdeal.Step.b35
  rw [← al_34 h, h.f_5]
  try rfl
set_option maxRecDepth 8192 in
theorem al_36 (h : Holds V0 s j) : (id (V0 (Proc.devRef .tc main_v22_5)) : (Proc.devRef .tc main_while0b_call4_v1 : DevRef τ sig).ty.Contents (Elt F)) = Cert.ReferenceIdeal.Step.b36 j s := by
  unfold Cert.ReferenceIdeal.Step.b36
  rw [h.f_5]
  try rfl
set_option maxRecDepth 8192 in
theorem al_37 (h : Holds V0 s j) : (constantI S_ 32 2048#32 : (Proc.devRef .tc main_while0b_call4_c_0 : DevRef τ sig).ty.Contents (Elt F)) = Cert.ReferenceIdeal.Step.b37 j s := by
  unfold Cert.ReferenceIdeal.Step.b37
  rfl
set_option maxRecDepth 8192 in
theorem al_38 (h : Holds V0 s j) : (addi (id (V0 (Proc.devRef .tc main_v22_5))) (constantI S_ 32 2048#32) : (Proc.devRef .tc main_while0b_call4_v2 : DevRef τ sig).ty.Contents (Elt F)) = Cert.ReferenceIdeal.Step.b38 j s := by
  unfold Cert.ReferenceIdeal.Step.b38
  rw [← al_36 h, ← al_37 h]
  try rfl
set_option maxRecDepth 8192 in
theorem al_39 (h : Holds V0 s j) : (select (cmpi .slt (V0 (Proc.devRef .tc main_v22_5)) (constantI S_ 32 0#32)) (addi (id (V0 (Proc.devRef .tc main_v22_5))) (constantI S_ 32 2048#32)) (V0 (Proc.devRef .tc main_v22_5)) : (Proc.devRef .tc main_while0b_call4_v3 : DevRef τ sig).ty.Contents (Elt F)) = Cert.ReferenceIdeal.Step.b39 j s := by
  unfold Cert.ReferenceIdeal.Step.b39
  rw [← al_35 h, ← al_38 h, h.f_5]
  try rfl
set_option maxRecDepth 8192 in
theorem al_40 (h : Holds V0 s j) : (constantI S_ 32 0#32 : (Proc.devRef .tc main_while0b_call4_c_1 : DevRef τ sig).ty.Contents (Elt F)) = Cert.ReferenceIdeal.Step.b40 j s := by
  unfold Cert.ReferenceIdeal.Step.b40
  rfl
set_option maxRecDepth 8192 in
theorem al_41 (h : Holds V0 s j) : (constantI S_ 32 0#32 : (Proc.devRef .tc main_while0b_call4_c_2 : DevRef τ sig).ty.Contents (Elt F)) = Cert.ReferenceIdeal.Step.b41 j s := by
  unfold Cert.ReferenceIdeal.Step.b41
  rfl
set_option maxRecDepth 8192 in
theorem al_42 (h : Holds V0 s j) : (Host.dynamicSlice S16x1x64 (V0 (Proc.devRef .tc main_v22_1)) (fun k => (((![constantI S_ 32 0#32, select (cmpi .slt (V0 (Proc.devRef .tc main_v22_5)) (constantI S_ 32 0#32)) (addi (id (V0 (Proc.devRef .tc main_v22_5))) (constantI S_ 32 2048#32)) (V0 (Proc.devRef .tc main_v22_5)), constantI S_ 32 0#32] : Fin 3 → (⟨S_, .i32⟩ : BufTy).Contents (Elt F))) k (Shape.Idx.first h_S_)).toInt) sliceFits_S16x2048x64_S16x1x64 : (Proc.devRef .tc main_while0b_call4_v4 : DevRef τ sig).ty.Contents (Elt F)) = Cert.ReferenceIdeal.Step.b42 j s := by
  unfold Cert.ReferenceIdeal.Step.b42
  rw [← al_40 h, ← al_39 h, ← al_41 h, h.f_1]
  try rfl
set_option maxRecDepth 8192 in
theorem al_43 (h : Holds V0 s j) : (shapeCast S16x64 (Host.dynamicSlice S16x1x64 (V0 (Proc.devRef .tc main_v22_1)) (fun k => (((![constantI S_ 32 0#32, select (cmpi .slt (V0 (Proc.devRef .tc main_v22_5)) (constantI S_ 32 0#32)) (addi (id (V0 (Proc.devRef .tc main_v22_5))) (constantI S_ 32 2048#32)) (V0 (Proc.devRef .tc main_v22_5)), constantI S_ 32 0#32] : Fin 3 → (⟨S_, .i32⟩ : BufTy).Contents (Elt F))) k (Shape.Idx.first h_S_)).toInt) sliceFits_S16x2048x64_S16x1x64) shapeCasts_S16x1x64_S16x64 : (Proc.devRef .tc main_while0b_v76 : DevRef τ sig).ty.Contents (Elt F)) = Cert.ReferenceIdeal.Step.b43 j s := by
  unfold Cert.ReferenceIdeal.Step.b43
  rw [← al_42 h]
  try rfl
set_option maxRecDepth 8192 in
theorem al_44 (h : Holds V0 s j) : (constantI S_ 32 0#32 : (Proc.devRef .tc main_while0b_call5_c : DevRef τ sig).ty.Contents (Elt F)) = Cert.ReferenceIdeal.Step.b44 j s := by
  unfold Cert.ReferenceIdeal.Step.b44
  rfl
set_option maxRecDepth 8192 in
theorem al_45 (h : Holds V0 s j) : (broadcastInDim S16x513 ![] bcast_S_S16x513 (constantI S_ 32 0#32) : (Proc.devRef .tc main_while0b_call5_v0 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (cmpi .slt (V0 (Proc.devRef .tc main_v22_2)) (broadcastInDim S16x513 ![] bcast_S_S16x513 (constantI S_ 32 0#32)) : (Proc.devRef .tc main_while0b_call5_v1 : DevRef τ sig).ty.Contents (Elt F)) = Cert.ReferenceIdeal.Step.b46 j s := by
  unfold Cert.ReferenceIdeal.Step.b46
  rw [← al_45 h, h.f_2]
  try rfl
set_option maxRecDepth 8192 in
theorem al_47 (h : Holds V0 s j) : (constantI S_ 32 64#32 : (Proc.devRef .tc main_while0b_call5_c_0 : DevRef τ sig).ty.Contents (Elt F)) = Cert.ReferenceIdeal.Step.b47 j s := by
  unfold Cert.ReferenceIdeal.Step.b47
  rfl
set_option maxRecDepth 8192 in
theorem al_48 (h : Holds V0 s j) : (broadcastInDim S16x513 ![] bcast_S_S16x513 (constantI S_ 32 64#32) : (Proc.devRef .tc main_while0b_call5_v2 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (addi (V0 (Proc.devRef .tc main_v22_2)) (broadcastInDim S16x513 ![] bcast_S_S16x513 (constantI S_ 32 64#32)) : (Proc.devRef .tc main_while0b_call5_v3 : DevRef τ sig).ty.Contents (Elt F)) = Cert.ReferenceIdeal.Step.b49 j s := by
  unfold Cert.ReferenceIdeal.Step.b49
  rw [← al_48 h, h.f_2]
  try rfl
set_option maxRecDepth 8192 in
theorem al_50 (h : Holds V0 s j) : (select (cmpi .slt (V0 (Proc.devRef .tc main_v22_2)) (broadcastInDim S16x513 ![] bcast_S_S16x513 (constantI S_ 32 0#32))) (addi (V0 (Proc.devRef .tc main_v22_2)) (broadcastInDim S16x513 ![] bcast_S_S16x513 (constantI S_ 32 64#32))) (V0 (Proc.devRef .tc main_v22_2)) : (Proc.devRef .tc main_while0b_call5_v4 : DevRef τ sig).ty.Contents (Elt F)) = Cert.ReferenceIdeal.Step.b50 j s := by
  unfold Cert.ReferenceIdeal.Step.b50
  rw [← al_46 h, ← al_49 h, h.f_2]
  try rfl
set_option maxRecDepth 8192 in
theorem al_51 (h : Holds V0 s j) : (shapeCast S16x513x1 (select (cmpi .slt (V0 (Proc.devRef .tc main_v22_2)) (broadcastInDim S16x513 ![] bcast_S_S16x513 (constantI S_ 32 0#32))) (addi (V0 (Proc.devRef .tc main_v22_2)) (broadcastInDim S16x513 ![] bcast_S_S16x513 (constantI S_ 32 64#32))) (V0 (Proc.devRef .tc main_v22_2))) shapeCasts_S16x513_S16x513x1 : (Proc.devRef .tc main_while0b_call5_v5 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (Host.gather gather_S16x64_S16x513x1_S16x513_n_1_0_0_1_2_11 (shapeCast S16x64 (Host.dynamicSlice S16x1x64 (V0 (Proc.devRef .tc main_v22_1)) (fun k => (((![constantI S_ 32 0#32, select (cmpi .slt (V0 (Proc.devRef .tc main_v22_5)) (constantI S_ 32 0#32)) (addi (id (V0 (Proc.devRef .tc main_v22_5))) (constantI S_ 32 2048#32)) (V0 (Proc.devRef .tc main_v22_5)), constantI S_ 32 0#32] : Fin 3 → (⟨S_, .i32⟩ : BufTy).Contents (Elt F))) k (Shape.Idx.first h_S_)).toInt) sliceFits_S16x2048x64_S16x1x64) shapeCasts_S16x1x64_S16x64) (shapeCast S16x513x1 (select (cmpi .slt (V0 (Proc.devRef .tc main_v22_2)) (broadcastInDim S16x513 ![] bcast_S_S16x513 (constantI S_ 32 0#32))) (addi (V0 (Proc.devRef .tc main_v22_2)) (broadcastInDim S16x513 ![] bcast_S_S16x513 (constantI S_ 32 64#32))) (V0 (Proc.devRef .tc main_v22_2))) shapeCasts_S16x513_S16x513x1) : (Proc.devRef .tc main_while0b_v77 : DevRef τ sig).ty.Contents (Elt F)) = Cert.ReferenceIdeal.Step.b52 j s := by
  unfold Cert.ReferenceIdeal.Step.b52
  rw [← al_43 h, ← al_51 h]
  try rfl
set_option maxRecDepth 8192 in
theorem al_53 (h : Holds V0 s j) : (addf (select (cmpf .une (res_main_while0b_v67 V0) (res_main_while0b_v67 V0)) (addf (res_main_while0b_v65 V0) (res_main_while0b_v55 V0)) (addf (maximumf (res_main_while0b_v65 V0) (res_main_while0b_v55 V0)) (Host.log1p (Host.exp (Host.negf (Host.absf (res_main_while0b_v67 V0))))))) (Host.gather gather_S16x64_S16x513x1_S16x513_n_1_0_0_1_2_11 (shapeCast S16x64 (Host.dynamicSlice S16x1x64 (V0 (Proc.devRef .tc main_v22_1)) (fun k => (((![constantI S_ 32 0#32, select (cmpi .slt (V0 (Proc.devRef .tc main_v22_5)) (constantI S_ 32 0#32)) (addi (id (V0 (Proc.devRef .tc main_v22_5))) (constantI S_ 32 2048#32)) (V0 (Proc.devRef .tc main_v22_5)), constantI S_ 32 0#32] : Fin 3 → (⟨S_, .i32⟩ : BufTy).Contents (Elt F))) k (Shape.Idx.first h_S_)).toInt) sliceFits_S16x2048x64_S16x1x64) shapeCasts_S16x1x64_S16x64) (shapeCast S16x513x1 (select (cmpi .slt (V0 (Proc.devRef .tc main_v22_2)) (broadcastInDim S16x513 ![] bcast_S_S16x513 (constantI S_ 32 0#32))) (addi (V0 (Proc.devRef .tc main_v22_2)) (broadcastInDim S16x513 ![] bcast_S_S16x513 (constantI S_ 32 64#32))) (V0 (Proc.devRef .tc main_v22_2))) shapeCasts_S16x513_S16x513x1)) : (Proc.devRef .tc main_while0b_v78 : DevRef τ sig).ty.Contents (Elt F)) = Cert.ReferenceIdeal.Step.b53 j s := by
  unfold Cert.ReferenceIdeal.Step.b53
  rw [← al_33 h, ← al_52 h]
  try rfl
set_option maxRecDepth 8192 in
theorem al_54 (h : Holds V0 s j) : (broadcastInDim S16x1 ![0] bcast_S16_S16x1_0 (V0 (Proc.devRef .tc main_v22_3)) : (Proc.devRef .tc main_while0b_v79 : DevRef τ sig).ty.Contents (Elt F)) = Cert.ReferenceIdeal.Step.b54 j s := by
  unfold Cert.ReferenceIdeal.Step.b54
  rw [h.f_3]
  try rfl
set_option maxRecDepth 8192 in
theorem al_55 (h : Holds V0 s j) : (id (V0 (Proc.devRef .tc main_v22_5)) : (Proc.devRef .tc main_while0b_v80 : DevRef τ sig).ty.Contents (Elt F)) = Cert.ReferenceIdeal.Step.b55 j s := by
  unfold Cert.ReferenceIdeal.Step.b55
  rw [h.f_5]
  try rfl
set_option maxRecDepth 8192 in
theorem al_56 (h : Holds V0 s j) : (broadcastInDim S16x1 ![] bcast_S_S16x1 (id (V0 (Proc.devRef .tc main_v22_5))) : (Proc.devRef .tc main_while0b_v81 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (cmpi .slt (broadcastInDim S16x1 ![] bcast_S_S16x1 (id (V0 (Proc.devRef .tc main_v22_5)))) (broadcastInDim S16x1 ![0] bcast_S16_S16x1_0 (V0 (Proc.devRef .tc main_v22_3))) : (Proc.devRef .tc main_while0b_v82 : DevRef τ sig).ty.Contents (Elt F)) = Cert.ReferenceIdeal.Step.b57 j s := by
  unfold Cert.ReferenceIdeal.Step.b57
  rw [← al_56 h, ← al_54 h]
  try rfl
set_option maxRecDepth 8192 in
theorem al_58 (h : Holds V0 s j) : (broadcastInDim S16x513 ![0, 1] bcast_S16x1_S16x513_0_1 (cmpi .slt (broadcastInDim S16x1 ![] bcast_S_S16x1 (id (V0 (Proc.devRef .tc main_v22_5)))) (broadcastInDim S16x1 ![0] bcast_S16_S16x1_0 (V0 (Proc.devRef .tc main_v22_3)))) : (Proc.devRef .tc main_while0b_call6_v0 : DevRef τ sig).ty.Contents (Elt F)) = Cert.ReferenceIdeal.Step.b58 j s := by
  unfold Cert.ReferenceIdeal.Step.b58
  rw [← al_57 h]
  try rfl
set_option maxRecDepth 8192 in
theorem al_59 (h : Holds V0 s j) : (select (broadcastInDim S16x513 ![0, 1] bcast_S16x1_S16x513_0_1 (cmpi .slt (broadcastInDim S16x1 ![] bcast_S_S16x1 (id (V0 (Proc.devRef .tc main_v22_5)))) (broadcastInDim S16x1 ![0] bcast_S16_S16x1_0 (V0 (Proc.devRef .tc main_v22_3))))) (addf (select (cmpf .une (res_main_while0b_v67 V0) (res_main_while0b_v67 V0)) (addf (res_main_while0b_v65 V0) (res_main_while0b_v55 V0)) (addf (maximumf (res_main_while0b_v65 V0) (res_main_while0b_v55 V0)) (Host.log1p (Host.exp (Host.negf (Host.absf (res_main_while0b_v67 V0))))))) (Host.gather gather_S16x64_S16x513x1_S16x513_n_1_0_0_1_2_11 (shapeCast S16x64 (Host.dynamicSlice S16x1x64 (V0 (Proc.devRef .tc main_v22_1)) (fun k => (((![constantI S_ 32 0#32, select (cmpi .slt (V0 (Proc.devRef .tc main_v22_5)) (constantI S_ 32 0#32)) (addi (id (V0 (Proc.devRef .tc main_v22_5))) (constantI S_ 32 2048#32)) (V0 (Proc.devRef .tc main_v22_5)), constantI S_ 32 0#32] : Fin 3 → (⟨S_, .i32⟩ : BufTy).Contents (Elt F))) k (Shape.Idx.first h_S_)).toInt) sliceFits_S16x2048x64_S16x1x64) shapeCasts_S16x1x64_S16x64) (shapeCast S16x513x1 (select (cmpi .slt (V0 (Proc.devRef .tc main_v22_2)) (broadcastInDim S16x513 ![] bcast_S_S16x513 (constantI S_ 32 0#32))) (addi (V0 (Proc.devRef .tc main_v22_2)) (broadcastInDim S16x513 ![] bcast_S_S16x513 (constantI S_ 32 64#32))) (V0 (Proc.devRef .tc main_v22_2))) shapeCasts_S16x513_S16x513x1))) (V0 (Proc.devRef .tc main_v22_6)) : (Proc.devRef .tc main_while0b_v83 : DevRef τ sig).ty.Contents (Elt F)) = Cert.ReferenceIdeal.Step.b59 j s := by
  unfold Cert.ReferenceIdeal.Step.b59
  rw [← al_58 h, ← al_53 h, h.f_6]
  try rfl

/-! One trip's step of the carried values is `step`, field by field; a counter steps to the next number. -/

theorem step_5 (h : Holds V0 s j) : step_main_v22_5 V0 = (step j s).main_v22_5 := by
  unfold step_main_v22_5 Cert.ReferenceIdeal.Step.step
  show id (addi (V0 (Proc.devRef .tc main_v22_5)) (constantI S_ 32 1#32)) = _
  rw [al_1 h]
  try rfl
theorem step_6 (h : Holds V0 s j) : step_main_v22_6 V0 = (step j s).main_v22_6 := by
  unfold step_main_v22_6 Cert.ReferenceIdeal.Step.step
  show id (select (broadcastInDim S16x513 ![0, 1] bcast_S16x1_S16x513_0_1 (cmpi .slt (broadcastInDim S16x1 ![] bcast_S_S16x1 (id (V0 (Proc.devRef .tc main_v22_5)))) (broadcastInDim S16x1 ![0] bcast_S16_S16x1_0 (V0 (Proc.devRef .tc main_v22_3))))) (addf (select (cmpf .une (res_main_while0b_v67 V0) (res_main_while0b_v67 V0)) (addf (res_main_while0b_v65 V0) (res_main_while0b_v55 V0)) (addf (maximumf (res_main_while0b_v65 V0) (res_main_while0b_v55 V0)) (Host.log1p (Host.exp (Host.negf (Host.absf (res_main_while0b_v67 V0))))))) (Host.gather gather_S16x64_S16x513x1_S16x513_n_1_0_0_1_2_11 (shapeCast S16x64 (Host.dynamicSlice S16x1x64 (V0 (Proc.devRef .tc main_v22_1)) (fun k => (((![constantI S_ 32 0#32, select (cmpi .slt (V0 (Proc.devRef .tc main_v22_5)) (constantI S_ 32 0#32)) (addi (id (V0 (Proc.devRef .tc main_v22_5))) (constantI S_ 32 2048#32)) (V0 (Proc.devRef .tc main_v22_5)), constantI S_ 32 0#32] : Fin 3 → (⟨S_, .i32⟩ : BufTy).Contents (Elt F))) k (Shape.Idx.first h_S_)).toInt) sliceFits_S16x2048x64_S16x1x64) shapeCasts_S16x1x64_S16x64) (shapeCast S16x513x1 (select (cmpi .slt (V0 (Proc.devRef .tc main_v22_2)) (broadcastInDim S16x513 ![] bcast_S_S16x513 (constantI S_ 32 0#32))) (addi (V0 (Proc.devRef .tc main_v22_2)) (broadcastInDim S16x513 ![] bcast_S_S16x513 (constantI S_ 32 64#32))) (V0 (Proc.devRef .tc main_v22_2))) shapeCasts_S16x513_S16x513x1))) (V0 (Proc.devRef .tc main_v22_6))) = _
  rw [al_59 h]
  try rfl
theorem step_4 (h : Holds V0 s j) : step_main_v22_4 V0 = constantI S_ 32 (BitVec.ofNat 32 (j + 1)) := by
  unfold step_main_v22_4
  rw [h.n_4]
  funext i
  show BitVec.ofNat 32 j + 1#32 = BitVec.ofNat 32 (j + 1)
  simp only [BitVec.ofNat_add]

set_option maxRecDepth 8192 in
theorem out_main_v47_holds (h : Holds V0 s j) {x_main_arg3 : (⟨S16, .i32⟩ : BufTy).Contents (Elt F)} (h_main_arg3 : V0 (Proc.devRef .tc main_arg3) = x_main_arg3) : out_main_v47 V0 = Cert.ReferenceIdeal.Step.R_main_v47 s x_main_arg3 := by
  unfold out_main_v47 Cert.ReferenceIdeal.Step.R_main_v47
  rw [h.f_6, h_main_arg3]
  try rfl

/-- One trip keeps the valuation holding: `step` of the state, the same set-up values, the next number. -/
theorem holds_step (h : Holds V0 s j) : Holds (STEP V0) (step j s) (j + 1) where
  f_5 := (STEP_main_v22_5 V0).trans (step_5 h)
  f_6 := (STEP_main_v22_6 V0).trans (step_6 h)
  n_4 := (STEP_main_v22_4 V0).trans (step_4 h)
  f_0 := (STEP_main_v22_0 V0).trans h.f_0
  f_1 := (STEP_main_v22_1 V0).trans h.f_1
  f_2 := (STEP_main_v22_2 V0).trans h.f_2
  f_3 := (STEP_main_v22_3 V0).trans h.f_3

end Cert.ReferenceIdeal.StepRun

end
-- ==== Proof.RefRun.lean ====
/- The reference's run: its result is what the recursion's last state gives. -/
module

public import proofs.«01_k».proof.Proof.RefTrip

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The state the first trip starts from, of the memory the run starts from. -/
abbrev initState (m : (ℓ : Loc nD τ sig) → Buf (Elt F) ℓ) (c : Dev nD) : State F :=
  init (m ((c.tc : Thread nD τ).loc main_arg2)) (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 4000000 in
theorem entry_f_5 : entryContents preI m c (Proc.devRef .tc main_v22_5) = (initState m c).main_v22_5 := by
  simp only [entryContents, afterL_cons, afterL_nil]; after_reads_simp
  try simp only [TRef.ofBuf_toBuf, initState, init, Cert.ReferenceIdeal.Step.K_main_call0_cst, Cert.ReferenceIdeal.Step.K_main_call0_cst_0, Cert.ReferenceIdeal.Step.K_main_call0_v1, Cert.ReferenceIdeal.Step.K_main_call0_cst_1, Cert.ReferenceIdeal.Step.K_main_c, Cert.ReferenceIdeal.Step.K_main_v1, Cert.ReferenceIdeal.Step.K_main_v2, Cert.ReferenceIdeal.Step.K_main_c_0, Cert.ReferenceIdeal.Step.K_main_v6, Cert.ReferenceIdeal.Step.K_main_c_1, Cert.ReferenceIdeal.Step.K_main_v8, Cert.ReferenceIdeal.Step.K_main_c_2, Cert.ReferenceIdeal.Step.K_main_v11, Cert.ReferenceIdeal.Step.K_main_v15, Cert.ReferenceIdeal.Step.K_main_c_3, Cert.ReferenceIdeal.Step.K_main_v16, Cert.ReferenceIdeal.Step.K_main_v17, Cert.ReferenceIdeal.Step.K_main_call1_c, Cert.ReferenceIdeal.Step.K_main_call1_v0, Cert.ReferenceIdeal.Step.K_main_call1_c_0, Cert.ReferenceIdeal.Step.K_main_call1_v2, Cert.ReferenceIdeal.Step.K_main_cst, Cert.ReferenceIdeal.Step.K_main_call2_v0, Cert.ReferenceIdeal.Step.K_main_call2_v1, Cert.ReferenceIdeal.Step.K_main_c_4, Cert.ReferenceIdeal.Step.K_main_c_5, Cert.ReferenceIdeal.Step.A_main_call0_v0, Cert.ReferenceIdeal.Step.A_main_call0_v2, Cert.ReferenceIdeal.Step.A_main_call0_v3, Cert.ReferenceIdeal.Step.A_main_call0_v4, Cert.ReferenceIdeal.Step.A_main_call0_v5, Cert.ReferenceIdeal.Step.A_main_call0_v6, Cert.ReferenceIdeal.Step.A_main_call0_v7, Cert.ReferenceIdeal.Step.A_main_call0_v8, Cert.ReferenceIdeal.Step.A_main_call0_v9, Cert.ReferenceIdeal.Step.A_main_call0_v10, Cert.ReferenceIdeal.Step.A_main_v0, Cert.ReferenceIdeal.Step.A_main_v3, Cert.ReferenceIdeal.Step.A_main_v4, Cert.ReferenceIdeal.Step.A_main_v5, Cert.ReferenceIdeal.Step.A_main_v7, Cert.ReferenceIdeal.Step.A_main_v9, Cert.ReferenceIdeal.Step.A_main_v10, Cert.ReferenceIdeal.Step.A_main_v12, Cert.ReferenceIdeal.Step.A_main_v13, Cert.ReferenceIdeal.Step.A_main_v14, Cert.ReferenceIdeal.Step.A_main_v18, Cert.ReferenceIdeal.Step.A_main_v19, Cert.ReferenceIdeal.Step.A_main_call1_v1, Cert.ReferenceIdeal.Step.A_main_call1_v3, Cert.ReferenceIdeal.Step.A_main_call1_v4, Cert.ReferenceIdeal.Step.A_main_call1_v5, Cert.ReferenceIdeal.Step.A_main_v20, Cert.ReferenceIdeal.Step.A_main_v21]
  try rfl

set_option maxRecDepth 65536 in
set_option maxHeartbeats 4000000 in
theorem entry_f_6 : entryContents preI m c (Proc.devRef .tc main_v22_6) = (initState m c).main_v22_6 := by
  simp only [entryContents, afterL_cons, afterL_nil]; after_reads_simp
  try simp only [TRef.ofBuf_toBuf, initState, init, Cert.ReferenceIdeal.Step.K_main_call0_cst, Cert.ReferenceIdeal.Step.K_main_call0_cst_0, Cert.ReferenceIdeal.Step.K_main_call0_v1, Cert.ReferenceIdeal.Step.K_main_call0_cst_1, Cert.ReferenceIdeal.Step.K_main_c, Cert.ReferenceIdeal.Step.K_main_v1, Cert.ReferenceIdeal.Step.K_main_v2, Cert.ReferenceIdeal.Step.K_main_c_0, Cert.ReferenceIdeal.Step.K_main_v6, Cert.ReferenceIdeal.Step.K_main_c_1, Cert.ReferenceIdeal.Step.K_main_v8, Cert.ReferenceIdeal.Step.K_main_c_2, Cert.ReferenceIdeal.Step.K_main_v11, Cert.ReferenceIdeal.Step.K_main_v15, Cert.ReferenceIdeal.Step.K_main_c_3, Cert.ReferenceIdeal.Step.K_main_v16, Cert.ReferenceIdeal.Step.K_main_v17, Cert.ReferenceIdeal.Step.K_main_call1_c, Cert.ReferenceIdeal.Step.K_main_call1_v0, Cert.ReferenceIdeal.Step.K_main_call1_c_0, Cert.ReferenceIdeal.Step.K_main_call1_v2, Cert.ReferenceIdeal.Step.K_main_cst, Cert.ReferenceIdeal.Step.K_main_call2_v0, Cert.ReferenceIdeal.Step.K_main_call2_v1, Cert.ReferenceIdeal.Step.K_main_c_4, Cert.ReferenceIdeal.Step.K_main_c_5, Cert.ReferenceIdeal.Step.A_main_call0_v0, Cert.ReferenceIdeal.Step.A_main_call0_v2, Cert.ReferenceIdeal.Step.A_main_call0_v3, Cert.ReferenceIdeal.Step.A_main_call0_v4, Cert.ReferenceIdeal.Step.A_main_call0_v5, Cert.ReferenceIdeal.Step.A_main_call0_v6, Cert.ReferenceIdeal.Step.A_main_call0_v7, Cert.ReferenceIdeal.Step.A_main_call0_v8, Cert.ReferenceIdeal.Step.A_main_call0_v9, Cert.ReferenceIdeal.Step.A_main_call0_v10, Cert.ReferenceIdeal.Step.A_main_v0, Cert.ReferenceIdeal.Step.A_main_v3, Cert.ReferenceIdeal.Step.A_main_v4, Cert.ReferenceIdeal.Step.A_main_v5, Cert.ReferenceIdeal.Step.A_main_v7, Cert.ReferenceIdeal.Step.A_main_v9, Cert.ReferenceIdeal.Step.A_main_v10, Cert.ReferenceIdeal.Step.A_main_v12, Cert.ReferenceIdeal.Step.A_main_v13, Cert.ReferenceIdeal.Step.A_main_v14, Cert.ReferenceIdeal.Step.A_main_v18, Cert.ReferenceIdeal.Step.A_main_v19, Cert.ReferenceIdeal.Step.A_main_call1_v1, Cert.ReferenceIdeal.Step.A_main_call1_v3, Cert.ReferenceIdeal.Step.A_main_call1_v4, Cert.ReferenceIdeal.Step.A_main_call1_v5, Cert.ReferenceIdeal.Step.A_main_v20, Cert.ReferenceIdeal.Step.A_main_v21]
  try rfl

set_option maxRecDepth 65536 in
set_option maxHeartbeats 4000000 in
theorem entry_f_0 : entryContents preI m c (Proc.devRef .tc main_v22_0) = (initState m c).main_v22_0 := by
  simp only [entryContents, afterL_cons, afterL_nil]; after_reads_simp
  try simp only [TRef.ofBuf_toBuf, initState, init, Cert.ReferenceIdeal.Step.K_main_call0_cst, Cert.ReferenceIdeal.Step.K_main_call0_cst_0, Cert.ReferenceIdeal.Step.K_main_call0_v1, Cert.ReferenceIdeal.Step.K_main_call0_cst_1, Cert.ReferenceIdeal.Step.K_main_c, Cert.ReferenceIdeal.Step.K_main_v1, Cert.ReferenceIdeal.Step.K_main_v2, Cert.ReferenceIdeal.Step.K_main_c_0, Cert.ReferenceIdeal.Step.K_main_v6, Cert.ReferenceIdeal.Step.K_main_c_1, Cert.ReferenceIdeal.Step.K_main_v8, Cert.ReferenceIdeal.Step.K_main_c_2, Cert.ReferenceIdeal.Step.K_main_v11, Cert.ReferenceIdeal.Step.K_main_v15, Cert.ReferenceIdeal.Step.K_main_c_3, Cert.ReferenceIdeal.Step.K_main_v16, Cert.ReferenceIdeal.Step.K_main_v17, Cert.ReferenceIdeal.Step.K_main_call1_c, Cert.ReferenceIdeal.Step.K_main_call1_v0, Cert.ReferenceIdeal.Step.K_main_call1_c_0, Cert.ReferenceIdeal.Step.K_main_call1_v2, Cert.ReferenceIdeal.Step.K_main_cst, Cert.ReferenceIdeal.Step.K_main_call2_v0, Cert.ReferenceIdeal.Step.K_main_call2_v1, Cert.ReferenceIdeal.Step.K_main_c_4, Cert.ReferenceIdeal.Step.K_main_c_5, Cert.ReferenceIdeal.Step.A_main_call0_v0, Cert.ReferenceIdeal.Step.A_main_call0_v2, Cert.ReferenceIdeal.Step.A_main_call0_v3, Cert.ReferenceIdeal.Step.A_main_call0_v4, Cert.ReferenceIdeal.Step.A_main_call0_v5, Cert.ReferenceIdeal.Step.A_main_call0_v6, Cert.ReferenceIdeal.Step.A_main_call0_v7, Cert.ReferenceIdeal.Step.A_main_call0_v8, Cert.ReferenceIdeal.Step.A_main_call0_v9, Cert.ReferenceIdeal.Step.A_main_call0_v10, Cert.ReferenceIdeal.Step.A_main_v0, Cert.ReferenceIdeal.Step.A_main_v3, Cert.ReferenceIdeal.Step.A_main_v4, Cert.ReferenceIdeal.Step.A_main_v5, Cert.ReferenceIdeal.Step.A_main_v7, Cert.ReferenceIdeal.Step.A_main_v9, Cert.ReferenceIdeal.Step.A_main_v10, Cert.ReferenceIdeal.Step.A_main_v12, Cert.ReferenceIdeal.Step.A_main_v13, Cert.ReferenceIdeal.Step.A_main_v14, Cert.ReferenceIdeal.Step.A_main_v18, Cert.ReferenceIdeal.Step.A_main_v19, Cert.ReferenceIdeal.Step.A_main_call1_v1, Cert.ReferenceIdeal.Step.A_main_call1_v3, Cert.ReferenceIdeal.Step.A_main_call1_v4, Cert.ReferenceIdeal.Step.A_main_call1_v5, Cert.ReferenceIdeal.Step.A_main_v20, Cert.ReferenceIdeal.Step.A_main_v21]
  try rfl

set_option maxRecDepth 65536 in
set_option maxHeartbeats 4000000 in
theorem entry_f_1 : entryContents preI m c (Proc.devRef .tc main_v22_1) = (initState m c).main_v22_1 := by
  simp only [entryContents, afterL_cons, afterL_nil]; after_reads_simp
  try simp only [TRef.ofBuf_toBuf, initState, init, Cert.ReferenceIdeal.Step.K_main_call0_cst, Cert.ReferenceIdeal.Step.K_main_call0_cst_0, Cert.ReferenceIdeal.Step.K_main_call0_v1, Cert.ReferenceIdeal.Step.K_main_call0_cst_1, Cert.ReferenceIdeal.Step.K_main_c, Cert.ReferenceIdeal.Step.K_main_v1, Cert.ReferenceIdeal.Step.K_main_v2, Cert.ReferenceIdeal.Step.K_main_c_0, Cert.ReferenceIdeal.Step.K_main_v6, Cert.ReferenceIdeal.Step.K_main_c_1, Cert.ReferenceIdeal.Step.K_main_v8, Cert.ReferenceIdeal.Step.K_main_c_2, Cert.ReferenceIdeal.Step.K_main_v11, Cert.ReferenceIdeal.Step.K_main_v15, Cert.ReferenceIdeal.Step.K_main_c_3, Cert.ReferenceIdeal.Step.K_main_v16, Cert.ReferenceIdeal.Step.K_main_v17, Cert.ReferenceIdeal.Step.K_main_call1_c, Cert.ReferenceIdeal.Step.K_main_call1_v0, Cert.ReferenceIdeal.Step.K_main_call1_c_0, Cert.ReferenceIdeal.Step.K_main_call1_v2, Cert.ReferenceIdeal.Step.K_main_cst, Cert.ReferenceIdeal.Step.K_main_call2_v0, Cert.ReferenceIdeal.Step.K_main_call2_v1, Cert.ReferenceIdeal.Step.K_main_c_4, Cert.ReferenceIdeal.Step.K_main_c_5, Cert.ReferenceIdeal.Step.A_main_call0_v0, Cert.ReferenceIdeal.Step.A_main_call0_v2, Cert.ReferenceIdeal.Step.A_main_call0_v3, Cert.ReferenceIdeal.Step.A_main_call0_v4, Cert.ReferenceIdeal.Step.A_main_call0_v5, Cert.ReferenceIdeal.Step.A_main_call0_v6, Cert.ReferenceIdeal.Step.A_main_call0_v7, Cert.ReferenceIdeal.Step.A_main_call0_v8, Cert.ReferenceIdeal.Step.A_main_call0_v9, Cert.ReferenceIdeal.Step.A_main_call0_v10, Cert.ReferenceIdeal.Step.A_main_v0, Cert.ReferenceIdeal.Step.A_main_v3, Cert.ReferenceIdeal.Step.A_main_v4, Cert.ReferenceIdeal.Step.A_main_v5, Cert.ReferenceIdeal.Step.A_main_v7, Cert.ReferenceIdeal.Step.A_main_v9, Cert.ReferenceIdeal.Step.A_main_v10, Cert.ReferenceIdeal.Step.A_main_v12, Cert.ReferenceIdeal.Step.A_main_v13, Cert.ReferenceIdeal.Step.A_main_v14, Cert.ReferenceIdeal.Step.A_main_v18, Cert.ReferenceIdeal.Step.A_main_v19, Cert.ReferenceIdeal.Step.A_main_call1_v1, Cert.ReferenceIdeal.Step.A_main_call1_v3, Cert.ReferenceIdeal.Step.A_main_call1_v4, Cert.ReferenceIdeal.Step.A_main_call1_v5, Cert.ReferenceIdeal.Step.A_main_v20, Cert.ReferenceIdeal.Step.A_main_v21]
  try rfl

set_option maxRecDepth 65536 in
set_option maxHeartbeats 4000000 in
theorem entry_f_2 : entryContents preI m c (Proc.devRef .tc main_v22_2) = (initState m c).main_v22_2 := by
  simp only [entryContents, afterL_cons, afterL_nil]; after_reads_simp
  try simp only [TRef.ofBuf_toBuf, initState, init, Cert.ReferenceIdeal.Step.K_main_call0_cst, Cert.ReferenceIdeal.Step.K_main_call0_cst_0, Cert.ReferenceIdeal.Step.K_main_call0_v1, Cert.ReferenceIdeal.Step.K_main_call0_cst_1, Cert.ReferenceIdeal.Step.K_main_c, Cert.ReferenceIdeal.Step.K_main_v1, Cert.ReferenceIdeal.Step.K_main_v2, Cert.ReferenceIdeal.Step.K_main_c_0, Cert.ReferenceIdeal.Step.K_main_v6, Cert.ReferenceIdeal.Step.K_main_c_1, Cert.ReferenceIdeal.Step.K_main_v8, Cert.ReferenceIdeal.Step.K_main_c_2, Cert.ReferenceIdeal.Step.K_main_v11, Cert.ReferenceIdeal.Step.K_main_v15, Cert.ReferenceIdeal.Step.K_main_c_3, Cert.ReferenceIdeal.Step.K_main_v16, Cert.ReferenceIdeal.Step.K_main_v17, Cert.ReferenceIdeal.Step.K_main_call1_c, Cert.ReferenceIdeal.Step.K_main_call1_v0, Cert.ReferenceIdeal.Step.K_main_call1_c_0, Cert.ReferenceIdeal.Step.K_main_call1_v2, Cert.ReferenceIdeal.Step.K_main_cst, Cert.ReferenceIdeal.Step.K_main_call2_v0, Cert.ReferenceIdeal.Step.K_main_call2_v1, Cert.ReferenceIdeal.Step.K_main_c_4, Cert.ReferenceIdeal.Step.K_main_c_5, Cert.ReferenceIdeal.Step.A_main_call0_v0, Cert.ReferenceIdeal.Step.A_main_call0_v2, Cert.ReferenceIdeal.Step.A_main_call0_v3, Cert.ReferenceIdeal.Step.A_main_call0_v4, Cert.ReferenceIdeal.Step.A_main_call0_v5, Cert.ReferenceIdeal.Step.A_main_call0_v6, Cert.ReferenceIdeal.Step.A_main_call0_v7, Cert.ReferenceIdeal.Step.A_main_call0_v8, Cert.ReferenceIdeal.Step.A_main_call0_v9, Cert.ReferenceIdeal.Step.A_main_call0_v10, Cert.ReferenceIdeal.Step.A_main_v0, Cert.ReferenceIdeal.Step.A_main_v3, Cert.ReferenceIdeal.Step.A_main_v4, Cert.ReferenceIdeal.Step.A_main_v5, Cert.ReferenceIdeal.Step.A_main_v7, Cert.ReferenceIdeal.Step.A_main_v9, Cert.ReferenceIdeal.Step.A_main_v10, Cert.ReferenceIdeal.Step.A_main_v12, Cert.ReferenceIdeal.Step.A_main_v13, Cert.ReferenceIdeal.Step.A_main_v14, Cert.ReferenceIdeal.Step.A_main_v18, Cert.ReferenceIdeal.Step.A_main_v19, Cert.ReferenceIdeal.Step.A_main_call1_v1, Cert.ReferenceIdeal.Step.A_main_call1_v3, Cert.ReferenceIdeal.Step.A_main_call1_v4, Cert.ReferenceIdeal.Step.A_main_call1_v5, Cert.ReferenceIdeal.Step.A_main_v20, Cert.ReferenceIdeal.Step.A_main_v21]
  try rfl

set_option maxRecDepth 65536 in
set_option maxHeartbeats 4000000 in
theorem entry_f_3 : entryContents preI m c (Proc.devRef .tc main_v22_3) = (initState m c).main_v22_3 := by
  simp only [entryContents, afterL_cons, afterL_nil]; after_reads_simp
  try simp only [TRef.ofBuf_toBuf, initState, init, Cert.ReferenceIdeal.Step.K_main_call0_cst, Cert.ReferenceIdeal.Step.K_main_call0_cst_0, Cert.ReferenceIdeal.Step.K_main_call0_v1, Cert.ReferenceIdeal.Step.K_main_call0_cst_1, Cert.ReferenceIdeal.Step.K_main_c, Cert.ReferenceIdeal.Step.K_main_v1, Cert.ReferenceIdeal.Step.K_main_v2, Cert.ReferenceIdeal.Step.K_main_c_0, Cert.ReferenceIdeal.Step.K_main_v6, Cert.ReferenceIdeal.Step.K_main_c_1, Cert.ReferenceIdeal.Step.K_main_v8, Cert.ReferenceIdeal.Step.K_main_c_2, Cert.ReferenceIdeal.Step.K_main_v11, Cert.ReferenceIdeal.Step.K_main_v15, Cert.ReferenceIdeal.Step.K_main_c_3, Cert.ReferenceIdeal.Step.K_main_v16, Cert.ReferenceIdeal.Step.K_main_v17, Cert.ReferenceIdeal.Step.K_main_call1_c, Cert.ReferenceIdeal.Step.K_main_call1_v0, Cert.ReferenceIdeal.Step.K_main_call1_c_0, Cert.ReferenceIdeal.Step.K_main_call1_v2, Cert.ReferenceIdeal.Step.K_main_cst, Cert.ReferenceIdeal.Step.K_main_call2_v0, Cert.ReferenceIdeal.Step.K_main_call2_v1, Cert.ReferenceIdeal.Step.K_main_c_4, Cert.ReferenceIdeal.Step.K_main_c_5, Cert.ReferenceIdeal.Step.A_main_call0_v0, Cert.ReferenceIdeal.Step.A_main_call0_v2, Cert.ReferenceIdeal.Step.A_main_call0_v3, Cert.ReferenceIdeal.Step.A_main_call0_v4, Cert.ReferenceIdeal.Step.A_main_call0_v5, Cert.ReferenceIdeal.Step.A_main_call0_v6, Cert.ReferenceIdeal.Step.A_main_call0_v7, Cert.ReferenceIdeal.Step.A_main_call0_v8, Cert.ReferenceIdeal.Step.A_main_call0_v9, Cert.ReferenceIdeal.Step.A_main_call0_v10, Cert.ReferenceIdeal.Step.A_main_v0, Cert.ReferenceIdeal.Step.A_main_v3, Cert.ReferenceIdeal.Step.A_main_v4, Cert.ReferenceIdeal.Step.A_main_v5, Cert.ReferenceIdeal.Step.A_main_v7, Cert.ReferenceIdeal.Step.A_main_v9, Cert.ReferenceIdeal.Step.A_main_v10, Cert.ReferenceIdeal.Step.A_main_v12, Cert.ReferenceIdeal.Step.A_main_v13, Cert.ReferenceIdeal.Step.A_main_v14, Cert.ReferenceIdeal.Step.A_main_v18, Cert.ReferenceIdeal.Step.A_main_v19, Cert.ReferenceIdeal.Step.A_main_call1_v1, Cert.ReferenceIdeal.Step.A_main_call1_v3, Cert.ReferenceIdeal.Step.A_main_call1_v4, Cert.ReferenceIdeal.Step.A_main_call1_v5, Cert.ReferenceIdeal.Step.A_main_v20, Cert.ReferenceIdeal.Step.A_main_v21]
  try rfl

set_option maxRecDepth 65536 in
set_option maxHeartbeats 4000000 in
theorem entry_n_4 : entryContents preI m c (Proc.devRef .tc main_v22_4) = constantI S_ 32 (BitVec.ofNat 32 0) := by
  simp only [entryContents, afterL_cons, afterL_nil]; after_reads_simp
  try simp only [TRef.ofBuf_toBuf, initState, init, Cert.ReferenceIdeal.Step.K_main_call0_cst, Cert.ReferenceIdeal.Step.K_main_call0_cst_0, Cert.ReferenceIdeal.Step.K_main_call0_v1, Cert.ReferenceIdeal.Step.K_main_call0_cst_1, Cert.ReferenceIdeal.Step.K_main_c, Cert.ReferenceIdeal.Step.K_main_v1, Cert.ReferenceIdeal.Step.K_main_v2, Cert.ReferenceIdeal.Step.K_main_c_0, Cert.ReferenceIdeal.Step.K_main_v6, Cert.ReferenceIdeal.Step.K_main_c_1, Cert.ReferenceIdeal.Step.K_main_v8, Cert.ReferenceIdeal.Step.K_main_c_2, Cert.ReferenceIdeal.Step.K_main_v11, Cert.ReferenceIdeal.Step.K_main_v15, Cert.ReferenceIdeal.Step.K_main_c_3, Cert.ReferenceIdeal.Step.K_main_v16, Cert.ReferenceIdeal.Step.K_main_v17, Cert.ReferenceIdeal.Step.K_main_call1_c, Cert.ReferenceIdeal.Step.K_main_call1_v0, Cert.ReferenceIdeal.Step.K_main_call1_c_0, Cert.ReferenceIdeal.Step.K_main_call1_v2, Cert.ReferenceIdeal.Step.K_main_cst, Cert.ReferenceIdeal.Step.K_main_call2_v0, Cert.ReferenceIdeal.Step.K_main_call2_v1, Cert.ReferenceIdeal.Step.K_main_c_4, Cert.ReferenceIdeal.Step.K_main_c_5, Cert.ReferenceIdeal.Step.A_main_call0_v0, Cert.ReferenceIdeal.Step.A_main_call0_v2, Cert.ReferenceIdeal.Step.A_main_call0_v3, Cert.ReferenceIdeal.Step.A_main_call0_v4, Cert.ReferenceIdeal.Step.A_main_call0_v5, Cert.ReferenceIdeal.Step.A_main_call0_v6, Cert.ReferenceIdeal.Step.A_main_call0_v7, Cert.ReferenceIdeal.Step.A_main_call0_v8, Cert.ReferenceIdeal.Step.A_main_call0_v9, Cert.ReferenceIdeal.Step.A_main_call0_v10, Cert.ReferenceIdeal.Step.A_main_v0, Cert.ReferenceIdeal.Step.A_main_v3, Cert.ReferenceIdeal.Step.A_main_v4, Cert.ReferenceIdeal.Step.A_main_v5, Cert.ReferenceIdeal.Step.A_main_v7, Cert.ReferenceIdeal.Step.A_main_v9, Cert.ReferenceIdeal.Step.A_main_v10, Cert.ReferenceIdeal.Step.A_main_v12, Cert.ReferenceIdeal.Step.A_main_v13, Cert.ReferenceIdeal.Step.A_main_v14, Cert.ReferenceIdeal.Step.A_main_v18, Cert.ReferenceIdeal.Step.A_main_v19, Cert.ReferenceIdeal.Step.A_main_call1_v1, Cert.ReferenceIdeal.Step.A_main_call1_v3, Cert.ReferenceIdeal.Step.A_main_call1_v4, Cert.ReferenceIdeal.Step.A_main_call1_v5, Cert.ReferenceIdeal.Step.A_main_v20, Cert.ReferenceIdeal.Step.A_main_v21]
  try rfl

/-- What @main's operations before the loop leave: the set-up values, number 0, the initial state. -/
theorem entry_holds : Holds (entryContents preI m c) (initState m c) 0 :=
  ⟨entry_f_5 m c, entry_f_6 m c, entry_f_0 m c, entry_f_1 m c, entry_f_2 m c, entry_f_3 m c, entry_n_4 m c⟩

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 2047 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v47) = Cert.ReferenceIdeal.Step.R_main_v47 (it c 2047) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 2047
    ⟨(h c).1.trans (out_main_v47_holds hk (iter_main_arg3 m c 2047)), (h c).2.1, (h c).2.2.1, (h c).2.2.2.1, (h c).2.2.2.2⟩) (Value.run m ρ)

end Cert.ReferenceIdeal.StepRun

end
-- ==== Proof.RefMax.lean ====
/- What the reference's recursion starts from, and what is made of its end. -/
module

public import proofs.«01_k».proof.Proof.RefValue

@[expose] public section

noncomputable section

namespace Cert.ReferenceIdeal.Rec

open Cert.ReferenceIdeal Cert.ReferenceIdeal.Gen Cert.ReferenceIdeal.Step Cert.Ctc
open Idealize.ShloMosaic Idealize.ShloMosaic.TcCoe Idealize.ShloMosaic.Tactic

variable {D : Data} {x0 : (⟨S16x2048x64, .f32⟩ : BufTy).Contents (Elt Ideal)} {x1 : (⟨S16x256, .i32⟩ : BufTy).Contents (Elt Ideal)}
    {x2 x3 : (⟨S16, .i32⟩ : BufTy).Contents (Elt Ideal)}

theorem max_apply (h : Args D x0 x1 x2 x3) (b : Fin 16) (t : Fin 2048) : ∃ m : ℝ, A_main_call0_v0 x0 x1 (ix2 b t) = (m : EReal) := by
  unfold A_main_call0_v0
  rw [Host.reduce_eq_fold]
  have e : (K_main_call0_cst (F := Ideal) (Shape.Idx.first h_S_)) = (⊥ : EReal) := ninf
  rw [e]
  refine fold_max_coe _ ⟨ix3 b t 0, ?_⟩ _ fun i _ => ⟨D.a (i 0) (i 1).val (i 2), ?_⟩
  · rw [Finset.mem_filter]
    refine ⟨Finset.mem_univ _, ?_⟩
    funext a
    match a with
    | ⟨0, _⟩ => rfl
    | ⟨1, _⟩ => rfl
  · rw [← h.logit (i 0) (i 1) (i 2)]
    congr 1
    funext a
    match a with
    | ⟨0, _⟩ => rfl
    | ⟨1, _⟩ => rfl
    | ⟨2, _⟩ => rfl

end Cert.ReferenceIdeal.Rec

end
-- ==== Proof.RefInit.lean ====
/- What the reference's recursion starts from, and what is made of its end. -/
module

public import proofs.«01_k».proof.Proof.RefMax

@[expose] public section

noncomputable section

namespace Cert.ReferenceIdeal.Rec

open Cert.ReferenceIdeal Cert.ReferenceIdeal.Gen Cert.ReferenceIdeal.Step Cert.Ctc
open Idealize.ShloMosaic Idealize.ShloMosaic.TcCoe Idealize.ShloMosaic.Tactic

variable {D : Data} {x0 : (⟨S16x2048x64, .f32⟩ : BufTy).Contents (Elt Ideal)} {x1 : (⟨S16x256, .i32⟩ : BufTy).Contents (Elt Ideal)}
    {x2 x3 : (⟨S16, .i32⟩ : BufTy).Contents (Elt Ideal)}

theorem label_apply (h : Args D x0 x1 x2 x3) (b : Fin 16) (k : Fin 513) :
    A_main_v7 x0 x1 (ix2 b k) = BitVec.ofNat 32 (D.lab b k).val := by
  pointwise [A_main_v7, A_main_v5, A_main_v4, A_main_v3, K_main_v2, K_main_v1, K_main_c, K_main_v6, K_main_c_0]
  have hk := k.isLt
  by_cases h1 : k.val < 512
  · have hd : k.val / 2 < 256 := by omega
    rw [dif_pos h1]
    by_cases h2 : k.val % 2 < 1
    · have e : D.lab b k = 0 := if_pos (by omega)
      rw [dif_pos h2, e]; rfl
    · have e : D.lab b k = D.tg b (k.val / 2) := if_neg (by omega)
      rw [dif_neg h2, e]
      exact h.target b ⟨k.val / 2, hd⟩
  · have e : D.lab b k = 0 := if_pos (by omega)
    rw [dif_neg h1, e]; rfl

theorem prev_apply (b : Fin 16) (k : Fin 513) :
    A_main_v10 x0 x1 (ix2 b k) = if h : k.val < 2 then 0#32 else A_main_v7 x0 x1 (ix2 b ⟨k.val - 2, by omega⟩) := by
  pointwise [A_main_v10, A_main_v9, K_main_v8, K_main_c_1]

theorem skip_apply (b : Fin 16) (k : Fin 513) : A_main_v14 x0 x1 (ix2 b k)
    = IntOp.cmpi .ne (A_main_v7 x0 x1 (ix2 b k)) 0#32 &&& IntOp.cmpi .ne (A_main_v7 x0 x1 (ix2 b k)) (A_main_v10 x0 x1 (ix2 b k)) := by
  pointwise [A_main_v14, A_main_v13, A_main_v12, K_main_v11, K_main_c_2]
  rfl

theorem maximumf_at (x y : S16x2048.Idx → EReal) (i : S16x2048.Idx) : maximumf (F := Ideal) (φ := .f32) x y i = max (x i) (y i) := rfl

theorem floor_apply (b : Fin 16) (t : Fin 2048) : A_main_call0_v2 x0 x1 (ix2 b t) = A_main_call0_v0 x0 x1 (ix2 b t) := by
  have e' : K_main_call0_v1 (F := Ideal) (ix2 b t) = (⊥ : EReal) := ninf
  unfold A_main_call0_v2
  rw [maximumf_at, e', max_eq_right bot_le]

theorem spread_apply (b : Fin 16) (t : Fin 2048) (v : Fin 64) : A_main_call0_v4 x0 x1 (ix3 b t v) = A_main_call0_v2 x0 x1 (ix2 b t) := by
  pointwise [A_main_call0_v4, A_main_call0_v3]

theorem shifted_apply (b : Fin 16) (t : Fin 2048) (v : Fin 64) : A_main_call0_v5 x0 x1 (ix3 b t v)
    = (x0 (ix3 b t v) - A_main_call0_v0 x0 x1 (ix2 b t) : EReal) := by
  have e : A_main_call0_v5 x0 x1 (ix3 b t v) = (x0 (ix3 b t v) - A_main_call0_v4 x0 x1 (ix3 b t v) : EReal) := rfl
  rw [e, spread_apply, floor_apply]

theorem softmax_apply (b : Fin 16) (t : Fin 2048) (v : Fin 64) : A_main_v0 x0 x1 (ix3 b t v)
    = (A_main_call0_v5 x0 x1 (ix3 b t v) - Ideal.log (∑ w : Fin 64, Ideal.exp (A_main_call0_v5 x0 x1 (ix3 b t w))) : EReal) := by
  pointwise [A_main_v0, A_main_call0_v10, A_main_call0_v9, A_main_call0_v8, A_main_call0_v7, A_main_call0_v6, K_main_call0_cst_1]

theorem first_apply (b : Fin 16) (v : Fin 64) : A_main_v19 x0 x1 (ix2 b v) = A_main_v0 x0 x1 (ix3 b 0 v) := by
  pointwise [A_main_v19, A_main_v18]

theorem index_apply (b : Fin 16) (k : Fin 513) : A_main_call1_v5 x0 x1 (ix3 b k 0)
    = if IntOp.cmpi .slt (A_main_v7 x0 x1 (ix2 b k)) 0#32 = 1#1 then A_main_v7 x0 x1 (ix2 b k) + 64#32 else A_main_v7 x0 x1 (ix2 b k) := by
  pointwise [A_main_call1_v5, A_main_call1_v4, A_main_call1_v3, A_main_call1_v1, K_main_call1_v0, K_main_call1_v2, K_main_call1_c, K_main_call1_c_0]
  rfl

theorem select_if (c : BitVec 1) (a b : EReal) : Scalar.select c a b = if c = 1#1 then a else b := rfl

theorem begin_apply (b : Fin 16) (k : Fin 513) : A_main_v21 x0 x1 (ix2 b k)
    = if IntOp.cmpi .slt (BitVec.ofNat 32 k.val) 2#32 = 1#1 then A_main_v20 x0 x1 (ix2 b k) else (⊥ : EReal) := by
  pointwise [A_main_v21, K_main_v17, K_main_v16, K_main_v15, K_main_call2_v1, K_main_call2_v0, K_main_cst, K_main_c_3]
  have e : (id (constant (F := Ideal) S_ FTy.f32 4286578688#32) ix0 : EReal) = ⊥ := ninf
  rw [select_if, e]

theorem logp_apply (h : Args D x0 x1 x2 x3) (b : Fin 16) (t : Fin 2048) (v : Fin 64) :
    A_main_v0 x0 x1 (ix3 b t v) = ((D.lp b t v : ℝ) : EReal) := by
  obtain ⟨m, hm⟩ := max_apply h b t
  have e : ∀ w, A_main_call0_v5 x0 x1 (ix3 b t w) = ((D.a b t w : ℝ) : EReal) - (m : EReal) := fun w => by
    rw [shifted_apply, hm, h.logit]
  rw [softmax_apply, Finset.sum_congr rfl fun w _ => congrArg Ideal.exp (e w), e, log_sum_exp, ← EReal.coe_sub, ← EReal.coe_sub]
  refine congrArg (fun r : ℝ => (r : EReal)) ?_
  unfold Data.lp Data.lse
  ring

end Cert.ReferenceIdeal.Rec

end
-- ==== Proof.RefBegin.lean ====
/- The reference's state before the first step of its recursion holds the numbers. -/
module

public import proofs.«01_k».proof.Proof.RefInit

@[expose] public section

noncomputable section

namespace Cert.ReferenceIdeal.Rec

open Cert.ReferenceIdeal Cert.ReferenceIdeal.Gen Cert.ReferenceIdeal.Step Cert.Ctc
open Idealize.ShloMosaic Idealize.ShloMosaic.TcCoe Idealize.ShloMosaic.Tactic

variable {D : Data} {x0 : (⟨S16x2048x64, .f32⟩ : BufTy).Contents (Elt Ideal)} {x1 : (⟨S16x256, .i32⟩ : BufTy).Contents (Elt Ideal)}
    {x2 x3 : (⟨S16, .i32⟩ : BufTy).Contents (Elt Ideal)}

/-- The state before the first step. -/
theorem holds_init (h : Args D x0 x1 x2 x3) (hD : D.Ok) : Holds D 0 (init x2 x0 x1) := by
  have hlab : ∀ b k, (D.lab b k).val < 64 := fun b k => (D.lab b k).isLt
  refine ⟨by rfl, ?_, ?_, logp_apply h, label_apply h, h.length⟩
  · intro b k
    have hk := k.isLt
    show A_main_v21 x0 x1 (ix2 b k) = L (D.begin b k)
    rw [begin_apply]
    unfold Data.begin
    by_cases h2 : k.val < 2
    · rw [if_pos ((slt_ofNat (by omega) (by omega)).mpr h2), if_pos h2]
      have e : A_main_v20 x0 x1 (ix2 b k) = A_main_v19 x0 x1 (ix2 b ⟨min (A_main_call1_v5 x0 x1 (ix3 b k 0)).toInt.toNat (64 - 1), by omega⟩) := by
        unfold A_main_v20
        exact gather_lanes (by omega) _ _ _ b k
      rw [e, first_apply, logp_apply h]
      unfold Data.pr
      rw [L_exp]
      have hl := hlab b k
      refine congrArg (fun v => ((D.lp b 0 v : ℝ) : EReal)) (Fin.ext ?_)
      show min (A_main_call1_v5 x0 x1 (ix3 b k 0)).toInt.toNat (64 - 1) = _
      rw [index_apply, label_apply h, if_neg (by rw [slt_ofNat (n := 0) (by omega) (by omega)]; omega), toInt_ofNat (by omega)]
      omega
    · rw [if_neg (fun c => h2 ((slt_ofNat (by omega) (by omega)).mp c)), if_neg h2, L_zero]
  · intro b k
    have hk := k.isLt
    show A_main_v14 x0 x1 (ix2 b k) = 1#1 ↔ _
    have ne_iff : ∀ {m n : ℕ}, m < 64 → n < 64 → (IntOp.cmpi .ne (BitVec.ofNat 32 m) (BitVec.ofNat 32 n) = 1#1 ↔ m ≠ n) := by
      intro m n hm hn
      have e : IntOp.cmpi .ne (BitVec.ofNat 32 m) (BitVec.ofNat 32 n) = BitVec.ofBool (BitVec.ofNat 32 m != BitVec.ofNat 32 n) := rfl
      rw [e]
      by_cases c : m = n
      · simp [c]
      · have : BitVec.ofNat 32 m ≠ BitVec.ofNat 32 n := fun c' => c (by
          have := congrArg BitVec.toNat c'
          rw [BitVec.toNat_ofNat, BitVec.toNat_ofNat] at this; omega)
        rw [beq_eq_false_iff_ne.mpr this |> fun e => show (BitVec.ofNat 32 m != BitVec.ofNat 32 n) = true by rw [bne, e]; rfl]
        simp [c]
    have and_iff : ∀ x y : BitVec 1, x &&& y = 1#1 ↔ x = 1#1 ∧ y = 1#1 := by decide
    rw [skip_apply, prev_apply, and_iff, label_apply h, ne_iff (n := 0) (hlab b k) (by omega)]
    unfold Data.may
    by_cases h1 : k.val % 2 = 1
    · have e1 : D.lab b k = D.tg b (k / 2) := by unfold Data.lab; rw [if_neg (by omega)]
      have g1 := hD.tg_ge b (k.val / 2) (by omega)
      by_cases h2 : k.val < 2
      · rw [dif_pos h2, ne_iff (n := 0) (hlab b k) (by omega), e1]
        constructor
        · intro _; exact ⟨h1, Or.inl (by omega)⟩
        · intro _; constructor <;> omega
      · rw [dif_neg h2, label_apply h, ne_iff (hlab b k) (hlab b _), e1]
        have e2 : D.lab b (k.val - 2) = D.tg b (k / 2 - 1) := by
          unfold Data.lab; rw [if_neg (by omega), show (k.val - 2) / 2 = k / 2 - 1 by omega]
        show _ ∧ (D.tg b (k / 2)).val ≠ (D.lab b (k.val - 2)).val ↔ _
        rw [e2]
        constructor
        · rintro ⟨_, c⟩; exact ⟨h1, Or.inr fun c' => c (by rw [c'])⟩
        · rintro ⟨_, c | c⟩
          · omega
          · exact ⟨by omega, fun c' => c (Fin.ext c')⟩
    · have e1 : D.lab b k = 0 := by unfold Data.lab; rw [if_pos (by omega)]
      rw [e1]
      constructor
      · rintro ⟨c, _⟩; exact absurd rfl c
      · rintro ⟨c, _⟩; exact absurd c h1

end Cert.ReferenceIdeal.Rec

end
-- ==== Proof.RefTail.lean ====
/- What the reference returns: minus the logarithm of the total probability. -/
module

public import proofs.«01_k».proof.Proof.RefValue
public import proofs.«01_k».proof.Proof.RefInit

@[expose] public section

noncomputable section

namespace Cert.ReferenceIdeal.Rec

open Cert.ReferenceIdeal Cert.ReferenceIdeal.Gen Cert.ReferenceIdeal.Step Cert.Ctc
open Idealize.ShloMosaic Idealize.ShloMosaic.TcCoe Idealize.ShloMosaic.Tactic

/-- One number on every row. -/
abbrev col (n : BitVec 32) : IVec S16x1 32 := broadcastInDim S16x1 ![] bcast_S_S16x1 (constantI S_ 32 n)

/-- A column of words from a row of them. -/
abbrev stand (x : IVec S16 32) : IVec S16x1 32 := broadcastInDim S16x1 ![0] bcast_S16_S16x1_0 x

/-- The row's entry at a word, the negative words counted from the end. -/
noncomputable def entry (a : FVec Ideal S16x513 .f32) (i : IVec S16x1 32) : FVec Ideal S16x1 .f32 :=
  Host.gather gather_S16x513_S16x1x1_S16x1_n_1_0_0_1_2_11 a (shapeCast S16x1x1 (select (cmpi .slt i (col 0#32)) (addi i (col 513#32)) i) shapeCasts_S16x1_S16x1x1)

/-- The logarithm of a sum of exponentials. -/
noncomputable def lae (x y : FVec Ideal S16x1 .f32) : FVec Ideal S16x1 .f32 :=
  select (cmpf .une (subf x y) (subf x y)) (addf x y) (addf (maximumf x y) (log1p (exp (Host.negf (absf (subf x y))))))

theorem tail_eq (s : State Ideal) (x : (⟨S16, .i32⟩ : BufTy).Contents (Elt Ideal)) : R_main_v47 s x
    = Host.negf (shapeCast _ (lae (entry s.main_v22_6 (muli (col 2#32) (stand x)))
        (select (cmpi .sgt (stand x) (col 0#32)) (entry s.main_v22_6 (maxsi (subi (muli (col 2#32) (stand x)) (col 1#32)) (col 0#32)))
          (broadcastInDim S16x1 ![] bcast_S_S16x1 (id (constant S_ .f32 0xFF800000#32))))) shapeCasts_S16x1_S16) := rfl

theorem lae_apply (x y : FVec Ideal S16x1 .f32) (b : Fin 16) : lae x y (ix2 b 0)
    = (max (x (ix2 b 0)) (y (ix2 b 0)) + Ideal.log (1 + Ideal.exp (-(max (x (ix2 b 0) - y (ix2 b 0)) (-(x (ix2 b 0) - y (ix2 b 0)))))) : EReal) := by
  pointwise [lae]
  rw [if_neg (fun h => h rfl)]
  rfl

theorem entry_apply (a : FVec Ideal S16x513 .f32) (i : IVec S16x1 32) (b : Fin 16) (n : ℕ) (hn : n < 513) (hi : i (ix2 b 0) = BitVec.ofNat 32 n) :
    entry a i (ix2 b 0) = a (ix2 b ⟨n, hn⟩) := by
  unfold entry
  rw [show Host.gather gather_S16x513_S16x1x1_S16x1_n_1_0_0_1_2_11 a (shapeCast S16x1x1 (select (cmpi .slt i (col 0#32)) (addi i (col 513#32)) i) shapeCasts_S16x1_S16x1x1) (ix2 b 0) = _
    from gather_lanes (by omega) _ _ _ b 0]
  have e : shapeCast S16x1x1 (select (cmpi .slt i (col 0#32)) (addi i (col 513#32)) i) shapeCasts_S16x1_S16x1x1 (ix3 b 0 0) = BitVec.ofNat 32 n := by
    pointwise []
    rw [hi]
    show (if IntOp.cmpi .slt (BitVec.ofNat 32 n) 0#32 = 1#1 then _ else _) = _
    rw [if_neg (by rw [slt_ofNat (n := 0) (by omega) (by omega)]; omega)]
  refine congrArg (fun k => a (ix2 b k)) (Fin.ext ?_)
  have e' := congrArg (fun w : BitVec 32 => min w.toInt.toNat (513 - 1)) e
  refine e'.trans ?_
  show min (BitVec.ofNat 32 n).toInt.toNat (513 - 1) = n
  rw [toInt_ofNat (by omega)]
  omega

theorem tail_value {D : Data} (hD : D.Ok) {s : State Ideal} (h : Holds D 2047 s) (x : (⟨S16, .i32⟩ : BufTy).Contents (Elt Ideal))
    (hx : ∀ b : Fin 16, x (ix1 b) = BitVec.ofNat 32 (D.tl b)) (b : Fin 16) : R_main_v47 s x (ix1 b) = (-(L (D.total b)) : EReal) := by
  have h1 := hD.tl_ge b
  have h2 := hD.tl_le b
  have e1 : muli (col 2#32) (stand x) (ix2 b 0) = BitVec.ofNat 32 (2 * D.tl b) := by
    have : muli (col 2#32) (stand x) (ix2 b 0) = 2#32 * x (ix1 b) := by pointwise []; rfl
    rw [this, hx, BitVec.ofNat_mul]
  have e2 : maxsi (subi (muli (col 2#32) (stand x)) (col 1#32)) (col 0#32) (ix2 b 0) = BitVec.ofNat 32 (2 * D.tl b - 1) := by
    have : maxsi (subi (muli (col 2#32) (stand x)) (col 1#32)) (col 0#32) (ix2 b 0) = IntOp.maxsi (muli (col 2#32) (stand x) (ix2 b 0) - 1#32) 0#32 := rfl
    have e : BitVec.ofNat 32 (2 * D.tl b) - 1#32 = BitVec.ofNat 32 (2 * D.tl b - 1) := by
      rw [BitVec.sub_eq_iff_eq_add, ← BitVec.ofNat_add]; congr 1; omega
    rw [this, e1, e]
    unfold IntOp.maxsi
    split_ifs with hc
    · exact rfl
    · exfalso
      have h3 := (slt_ofNat (m := 0) (n := 2 * D.tl b - 1) (by omega) (by omega)).2 (by omega)
      have h4 : BitVec.ofBool ((0#32).slt (BitVec.ofNat 32 (2 * D.tl b - 1))) = 1#1 := h3
      rw [Bool.eq_false_iff.2 hc] at h4
      exact absurd h4 (by decide)
  have e3 : select (cmpi .sgt (stand x) (col 0#32)) (entry s.main_v22_6 (maxsi (subi (muli (col 2#32) (stand x)) (col 1#32)) (col 0#32)))
          (broadcastInDim S16x1 ![] bcast_S_S16x1 (id (constant (F := Ideal) S_ .f32 0xFF800000#32))) (ix2 b 0)
      = entry s.main_v22_6 (maxsi (subi (muli (col 2#32) (stand x)) (col 1#32)) (col 0#32)) (ix2 b 0) := by
    refine if_pos ?_
    show IntOp.cmpi .slt 0#32 (stand x (ix2 b 0)) = 1#1
    rw [show stand x (ix2 b 0) = x (ix1 b) by pointwise [], hx, slt_ofNat (m := 0) (by omega) (by omega)]
    omega
  rw [tail_eq]
  have e4 : ∀ z : FVec Ideal S16x1 .f32, Host.negf (shapeCast S16 z shapeCasts_S16x1_S16) (ix1 b) = (-(z (ix2 b 0)) : EReal) := fun z => by pointwise []
  rw [e4, lae_apply, e3, entry_apply _ _ b _ (by omega) e1, entry_apply _ _ b _ (by omega) e2, h.alpha, h.alpha,
    logaddexp (D.ex_nonneg b _ _) (D.ex_nonneg b _ _), D.ex_total hD]

end Cert.ReferenceIdeal.Rec

end
-- ==== Proof.RefResult.lean ====
/- What the reference's run leaves in its result. -/
module

public import proofs.«01_k».proof.Proof.RefRun
public import proofs.«01_k».proof.Proof.RefBegin
public import proofs.«01_k».proof.Proof.RefTail

@[expose] public section

noncomputable section

namespace Cert.ReferenceIdeal.Rec

open Cert.ReferenceIdeal Cert.ReferenceIdeal.Gen Cert.ReferenceIdeal.Step Cert.Ctc
open Idealize.ShloMosaic Idealize.ShloMosaic.TcCoe Idealize.ShloMosaic.Tactic
open Idealize.SL.Sem

variable (m : (ℓ : Loc nD τ sig) → Buf (Elt Ideal) ℓ) (ρ : Dev nD → PrngReg)

/-- The states of the loop, one after another. -/
def states (c : Dev nD) : ℕ → State Ideal
  | 0 => StepRun.initState m c
  | n + 1 => step n (states c n)

/-- The reference's result: minus the logarithm of each row's total probability; its arguments are as they were. -/
theorem run_value (D : Dev nD → Data) (hD : ∀ c, (D c).Ok)
    (h : ∀ c : Dev nD, Args (D c) (m ((c : Thread nD τ).loc main_arg0)) (m ((c : Thread nD τ).loc main_arg1)) (m ((c : Thread nD τ).loc main_arg2))
      (m ((c : Thread nD τ).loc main_arg3))) :
    θ_run (defs (F := Ideal)) (onTc (τ := τ) (main (F := Ideal))) ⟨m, fun _ => 0, ρ⟩ (fun r => ∀ c : Dev nD,
      r.2.mem ((c.tc : Thread nD τ).loc main_v47) = (fun i : S16.Idx => -(L ((D c).total (i 0))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun _ r c => ⟨(r c).1.trans (funext fun i => by
      rw [eq_ix1 i]
      exact tail_value (hD c) (holds_all (hD c).len_le (states m c) (holds_init (h c) (hD c)) (fun _ => rfl) 2047 (by omega)) _ (h c).tlength (i 0)),
    (r c).2⟩) (StepRun.run_iter m ρ (states m) (fun _ => rfl) fun _ _ => rfl)

end Cert.ReferenceIdeal.Rec

end
-- ==== Proof.Ranges.lean ====
/- What the precondition says of the arguments: finite logits and integers in their ranges, hence the numbers both programs compute on. -/
module

public import proofs.«01_k».proof.Proof.Gen.Pre_pre
public import proofs.«01_k».proof.Proof.RefValue
public import Idealize.ShloMosaic.Lib.ReduceAll

@[expose] public section

noncomputable section

namespace Cert.Ranges

open Cert.Pre_pre Cert.Pre_pre.Gen
open Cert.Ctc
open Idealize.ShloMosaic Idealize.ShloMosaic.TcCoe Idealize.ShloMosaic.Tactic

instance : Subsingleton S_.Idx := ⟨fun a b => funext fun i => i.elim0⟩

variable {x0 : FVec Ideal S16x2048x64 .f32} {x1 : IVec S16x256 32} {x2 x3 : IVec S16 32}

theorem both {a b : IVec S_ 1} (h : andi a b = fun _ => 1#1) : a = (fun _ => 1#1) ∧ b = (fun _ => 1#1) := by
  have e : ∀ p q : BitVec 1, p &&& q = 1#1 → p = 1#1 ∧ q = 1#1 := by decide
  exact ⟨funext fun i => (e _ _ (congrFun h i)).1, funext fun i => (e _ _ (congrFun h i)).2⟩

theorem both_at {s : Shape} {a b : IVec s 1} {i : s.Idx} (h : andi a b i = 1#1) : a i = 1#1 ∧ b i = 1#1 := by
  have e : ∀ p q : BitVec 1, p &&& q = 1#1 → p = 1#1 ∧ q = 1#1 := by decide
  exact e _ _ h

theorem of_one {p : Bool} (h : BitVec.ofBool p = 1#1) : p = true := by
  revert p; decide

/-- A signed lower bound that is not negative bounds the word's number too. -/
theorem ge_of {x lo : BitVec 32} (h : IntOp.cmpi .sge x lo = 1#1) (hl : lo.toNat < 2 ^ 31) : lo.toNat ≤ x.toNat ∧ x.toNat < 2 ^ 31 := by
  have e := BitVec.sle_iff_toInt_le.mp (of_one h)
  have hx := x.isLt
  rw [BitVec.toInt_eq_toNat_cond, BitVec.toInt_eq_toNat_cond] at e
  split_ifs at e <;> omega

theorem le_of {x hi : BitVec 32} (h : IntOp.cmpi .sle x hi = 1#1) (hx : x.toNat < 2 ^ 31) (hh : hi.toNat < 2 ^ 31) : x.toNat ≤ hi.toNat := by
  have e := BitVec.sle_iff_toInt_le.mp (of_one h)
  rw [BitVec.toInt_eq_toNat_cond, BitVec.toInt_eq_toNat_cond] at e
  split_ifs at e <;> omega

theorem lt_of {x hi : BitVec 32} (h : IntOp.cmpi .slt x hi = 1#1) (hx : x.toNat < 2 ^ 31) (hh : hi.toNat < 2 ^ 31) : x.toNat < hi.toNat := by
  have e := BitVec.slt_iff_toInt_lt.mp (of_one h)
  rw [BitVec.toInt_eq_toNat_cond, BitVec.toInt_eq_toNat_cond] at e
  split_ifs at e <;> omega

theorem all (h : Cert.Pre_pre.fn (F := Ideal) x0 x1 x2 x3 = fun _ => 1#1) :
    (∀ i, cmpf .olt (Host.absf x0) (broadcastInDim S16x2048x64 ![] bcast_S_S16x2048x64 (constant (F := Ideal) S_ .f32 0x7F800000#32)) i = 1#1)
    ∧ (∀ i, cmpi .sge x1 (broadcastInDim S16x256 ![] bcast_S_S16x256 (constantI S_ 32 2#32)) i = 1#1 ∧ cmpi .slt x1 (broadcastInDim S16x256 ![] bcast_S_S16x256 (constantI S_ 32 64#32)) i = 1#1)
    ∧ (∀ i, cmpi .sge x2 (broadcastInDim S16 ![] bcast_S_S16 (constantI S_ 32 1024#32)) i = 1#1 ∧ cmpi .sle x2 (broadcastInDim S16 ![] bcast_S_S16 (constantI S_ 32 2048#32)) i = 1#1)
    ∧ (∀ i, cmpi .sge x3 (broadcastInDim S16 ![] bcast_S_S16 (constantI S_ 32 128#32)) i = 1#1 ∧ cmpi .sle x3 (broadcastInDim S16 ![] bcast_S_S16 (constantI S_ 32 256#32)) i = 1#1) := by
  unfold Cert.Pre_pre.fn Cert.Pre_pre.fn_part1 at h
  dsimp only at h
  obtain ⟨h, h3⟩ := both h
  obtain ⟨h, h2⟩ := both h
  obtain ⟨h0, h1⟩ := both h
  have j : S_.Idx := fun a => a.elim0
  exact ⟨fun i => Host.reduce_andi_all _ _ _ _ j (congrFun h0 j) i,
    fun i => both_at (Host.reduce_andi_all _ _ _ _ j (congrFun h1 j) i),
    fun i => both_at (Host.reduce_andi_all _ _ _ _ j (congrFun h2 j) i),
    fun i => both_at (Host.reduce_andi_all _ _ _ _ j (congrFun h3 j) i)⟩

theorem finite (h : Cert.Pre_pre.fn (F := Ideal) x0 x1 x2 x3 = fun _ => 1#1) (b : Fin 16) (t : Fin 2048) (v : Fin 64) :
    x0 (ix3 b t v) ≠ ⊤ ∧ x0 (ix3 b t v) ≠ ⊥ := by
  have e := (all h).1 (ix3 b t v)
  pointwise at e
  have lt : max (x0 (ix3 b t v)) (-x0 (ix3 b t v)) < Ideal.ofBits FTy.f32 2139095040#32 := of_decide_eq_true (of_one e)
  constructor
  · intro hx; rw [hx] at lt; exact absurd (lt_of_le_of_lt (le_max_left _ _) lt) not_top_lt
  · intro hx; rw [hx] at lt; exact absurd (lt_of_le_of_lt (le_max_right _ _) lt) (by rw [EReal.neg_bot]; exact not_top_lt)

theorem target_range (h : Cert.Pre_pre.fn (F := Ideal) x0 x1 x2 x3 = fun _ => 1#1) (b : Fin 16) (u : Fin 256) :
    2 ≤ (x1 (ix2 b u)).toNat ∧ (x1 (ix2 b u)).toNat < 64 := by
  obtain ⟨e, e'⟩ := (all h).2.1 (ix2 b u)
  pointwise at e
  pointwise at e'
  have g := ge_of e (by decide)
  exact ⟨g.1, lt_of e' g.2 (by decide)⟩

theorem length_range (h : Cert.Pre_pre.fn (F := Ideal) x0 x1 x2 x3 = fun _ => 1#1) (b : Fin 16) :
    1024 ≤ (x2 (ix1 b)).toNat ∧ (x2 (ix1 b)).toNat ≤ 2048 := by
  obtain ⟨e, e'⟩ := (all h).2.2.1 (ix1 b)
  pointwise at e
  pointwise at e'
  have g := ge_of e (by decide)
  exact ⟨g.1, le_of e' g.2 (by decide)⟩

theorem tlength_range (h : Cert.Pre_pre.fn (F := Ideal) x0 x1 x2 x3 = fun _ => 1#1) (b : Fin 16) :
    128 ≤ (x3 (ix1 b)).toNat ∧ (x3 (ix1 b)).toNat ≤ 256 := by
  obtain ⟨e, e'⟩ := (all h).2.2.2 (ix1 b)
  pointwise at e
  pointwise at e'
  have g := ge_of e (by decide)
  exact ⟨g.1, le_of e' g.2 (by decide)⟩

theorem word (x : BitVec 32) : x = BitVec.ofNat 32 x.toNat := by rw [BitVec.ofNat_toNat, BitVec.setWidth_eq]

/-- The numbers the arguments stand for. -/
def data (x0 : FVec Ideal S16x2048x64 .f32) (x1 : IVec S16x256 32) (x2 x3 : IVec S16 32) : Data where
  a b t v := if ht : t < 2048 then (x0 (ix3 b ⟨t, ht⟩ v)).toReal else 0
  tg b u := if hu : u < 256 then Fin.ofNat 64 (x1 (ix2 b ⟨u, hu⟩)).toNat else 0
  len b := (x2 (ix1 b)).toNat
  tl b := (x3 (ix1 b)).toNat

theorem data_tg (h : Cert.Pre_pre.fn (F := Ideal) x0 x1 x2 x3 = fun _ => 1#1) (b : Fin 16) {u : ℕ} (hu : u < 256) :
    ((data x0 x1 x2 x3).tg b u).val = (x1 (ix2 b ⟨u, hu⟩)).toNat := by
  unfold data
  dsimp only
  rw [dif_pos hu]
  exact Nat.mod_eq_of_lt (target_range h b ⟨u, hu⟩).2

theorem ok (h : Cert.Pre_pre.fn (F := Ideal) x0 x1 x2 x3 = fun _ => 1#1) : (data x0 x1 x2 x3).Ok where
  tg_ge b u hu := by rw [data_tg h b hu]; exact (target_range h b ⟨u, hu⟩).1
  len_ge b := (length_range h b).1
  len_le b := (length_range h b).2
  tl_ge b := (tlength_range h b).1
  tl_le b := (tlength_range h b).2

theorem args (h : Cert.Pre_pre.fn (F := Ideal) x0 x1 x2 x3 = fun _ => 1#1) : Cert.ReferenceIdeal.Rec.Args (data x0 x1 x2 x3) x0 x1 x2 x3 where
  logit b t v := by
    have e := finite h b t v
    show _ = ((if ht : t.val < 2048 then (x0 (ix3 b ⟨t.val, ht⟩ v)).toReal else 0 : ℝ) : EReal)
    rw [dif_pos t.isLt]
    exact (EReal.coe_toReal e.1 e.2).symm
  target b u := by rw [data_tg h b u.isLt]; exact word _
  length b := word _
  tlength b := word _

end Cert.Ranges

end
-- ==== Proof.lean ====
/- The proof of the claim: its conjuncts, each from the module that proves it. -/
module

public import proofs.«01_k».proof.Defs
public import proofs.«01_k».proof.Proof.Launched
public import proofs.«01_k».proof.Proof.LaunchedK
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Pre_pre
public import proofs.«01_k».proof.Proof.Result
public import proofs.«01_k».proof.Proof.RefResult
public import proofs.«01_k».proof.Proof.Ranges
public import Idealize.ShloMosaic.Adequacy
public import Idealize.ShloMosaic.Init

@[expose] public section

noncomputable section

namespace Cert.Proof

open Idealize.ShloMosaic Idealize.SL.Sem

/-- The kernel, on floating-point words: it ends, its arguments as they were and every counter at zero. -/
theorem frame_kernel : Cert.quiescent_Kernel (hKernel := Cert.Kernel.Gen.facts) :=
  fun m ρ _ => Cert.Kernel.Launched.quiet m ρ

/-- The same of the kernel read over the reals. -/
theorem frame_ideal : Cert.quiescent_KernelIdeal (hKernelIdeal := Cert.KernelIdeal.Gen.facts) :=
  fun m ρ _ => Cert.KernelIdeal.Launched.quiet m ρ

/-- The reference ends, its arguments as they were; it declares no counter. -/
theorem frame_reference : Cert.quiescent_ReferenceIdeal (hReferenceIdeal := Cert.ReferenceIdeal.Gen.facts) := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two constants that stand for minus infinity, as the kernel over the reals names them. -/
theorem named : Cert.preserves_Kernel_KernelIdeal :=
  ⟨IdealRules.named_const.statement Cert.KernelIdeal.κ "mask" .f32 0xF149F2CA#32 ⊥ rfl,
    IdealRules.named_const.statement Cert.KernelIdeal.κ "floor" .f32 0x02081CEA#32 ⊥ rfl⟩

/-- Under the precondition the kernel over the reals and the reference leave the same result: both minus the logarithm of each
    row's total probability. -/
theorem equal : Cert.algebraic_KernelIdeal_ReferenceIdeal_pre_pre (hKernelIdeal := Cert.KernelIdeal.Gen.facts)
    (hReferenceIdeal := Cert.ReferenceIdeal.Gen.facts) (hPre_pre := Cert.Pre_pre.Gen.facts) := by
  intro m g m' g' hp hm
  let D (c : Dev Cert.KernelIdeal.nD) : Cert.Ctc.Data := Cert.Ranges.data
    (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
  have hD : ∀ c, (D c).Ok := fun c => Cert.Ranges.ok (hp c)
  refine ⟨_, Cert.KernelIdeal.Launched.run_value m g D hD fun c => Cert.Ranges.args (hp c), Cert.ReferenceIdeal.Rec.run_value m' g' D hD fun c => ?_⟩
  obtain ⟨h0, h1, h2, h3⟩ := hm c
  rw [h0, h1, h2, h3]
  exact Cert.Ranges.args (hp c)

theorem claim : Cert.Claim := ⟨Cert.Kernel.Gen.facts, Cert.KernelIdeal.Gen.facts, Cert.ReferenceIdeal.Gen.facts, Cert.Pre_pre.Gen.facts,
  frame_kernel, frame_ideal, fun m ρ _ => frame_ideal m ρ trivial, frame_reference, fun m ρ _ => frame_reference m ρ trivial, named, equal⟩

end Cert.Proof

end
